-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_objectness [hPre_finite_objectness : Cert.Pre_finite_objectness.Facts] (m : (ℓ : Loc Cert.KernelIdeal.nD Cert.KernelIdeal.τ Cert.KernelIdeal.sig) → Buf (Elt Ideal) ℓ) : Prop :=
  ∀ c : Dev Cert.KernelIdeal.nD,
    (Cert.Pre_finite_objectness.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_objectness [hPre_finite_objectness : Cert.Pre_finite_objectness.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_objectness.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_objectness [hKernelIdeal : Cert.KernelIdeal.Facts] [hPre_finite_objectness : Cert.Pre_finite_objectness.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_objectness m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_objectness [hReferenceIdeal : Cert.ReferenceIdeal.Facts] [hPre_finite_objectness : Cert.Pre_finite_objectness.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_objectness m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_w0" .f32 0x3D8D3DCB#32 ((2 / 29 : ℝ) : EReal)
  ∧ IdealRules.named_const.Statement Cert.KernelIdeal.κ "inv_h0" .f32 0x3DB60B61#32 ((4 / 45 : ℝ) : EReal)
  ∧ IdealRules.named_const.Statement Cert.KernelIdeal.κ "inv_classes" .f32 0x3C4CCCCD#32 ((1 / 80 : ℝ) : EReal)
  ∧ IdealRules.named_const.Statement Cert.KernelIdeal.κ "inv_w1" .f32 0x3D520D21#32 ((2 / 39 : ℝ) : EReal)
  ∧ IdealRules.named_const.Statement Cert.KernelIdeal.κ "inv_h1" .f32 0x3D257EB5#32 ((4 / 99 : ℝ) : EReal)
  ∧ IdealRules.named_const.Statement Cert.KernelIdeal.κ "inv_w2" .f32 0x3CAFB322#32 ((8 / 373 : ℝ) : EReal)
  ∧ IdealRules.named_const.Statement Cert.KernelIdeal.κ "inv_h2" .f32 0x3CC907DA#32 ((4 / 163 : ℝ) : EReal)

def algebraic_KernelIdeal_ReferenceIdeal_pre_finite_objectness [hKernelIdeal : Cert.KernelIdeal.Facts] [hReferenceIdeal : Cert.ReferenceIdeal.Facts] [hPre_finite_objectness : Cert.Pre_finite_objectness.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_objectness m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_objectness : Cert.Pre_finite_objectness.Facts),
    quiescent_Kernel (hKernel := hKernel)
    ∧ quiescent_KernelIdeal (hKernelIdeal := hKernelIdeal)
    ∧ quiescent_KernelIdeal_pre_finite_objectness (hKernelIdeal := hKernelIdeal) (hPre_finite_objectness := hPre_finite_objectness)
    ∧ quiescent_ReferenceIdeal (hReferenceIdeal := hReferenceIdeal)
    ∧ quiescent_ReferenceIdeal_pre_finite_objectness (hReferenceIdeal := hReferenceIdeal) (hPre_finite_objectness := hPre_finite_objectness)
    ∧ preserves_Kernel_KernelIdeal
    ∧ algebraic_KernelIdeal_ReferenceIdeal_pre_finite_objectness (hKernelIdeal := hKernelIdeal) (hReferenceIdeal := hReferenceIdeal) (hPre_finite_objectness := hPre_finite_objectness)
-- ==== Pre_finite_objectness.lean ====
abbrev S8x255x64x64 : Shape := ⟨4, ![8, 255, 64, 64]⟩
abbrev S8x3x64x64x6 : Shape := ⟨5, ![8, 3, 64, 64, 6]⟩
abbrev S8x3x64x64 : Shape := ⟨4, ![8, 3, 64, 64]⟩
abbrev S8x3x64x64x1 : Shape := ⟨5, ![8, 3, 64, 64, 1]⟩
abbrev S_ : Shape := ⟨0, ![]⟩

class Facts : Prop where
  slices_S8x255x64x64_S8x3x64x64_0_12_0_0 : S8x255x64x64.Slices ![0, 12, 0, 0] S8x3x64x64
  slices_S8x3x64x64x6_S8x3x64x64x1_0_0_0_0_4 : S8x3x64x64x6.Slices ![0, 0, 0, 0, 4] S8x3x64x64x1
  shapeCasts_S8x3x64x64x1_S8x3x64x64 : S8x3x64x64x1.ShapeCasts S8x3x64x64
  bcast_S_S8x3x64x64 : S_.BroadcastsInDim S8x3x64x64 (![] : Fin 0 → Fin S8x3x64x64.rank)
  reducesTo_S8x3x64x64_S_d0_1_2_3 : S8x3x64x64.ReducesTo [0, 1, 2, 3] S_
  h_S_ : 0 < S_.numel

variable [Facts]

def fn {F : FTy → Type} [FloatOps F] (main_arg0 : FVec F S8x255x64x64 .f32) (main_arg1 : FVec F S8x3x64x64x6 .f32) : IVec S_ 1 :=
  let main_v0 : FVec F S8x3x64x64 .f32 := (extractStridedSlice S8x3x64x64 ![0, 12, 0, 0] · slices_S8x255x64x64_S8x3x64x64_0_12_0_0) main_arg0
  let main_v1 : FVec F S8x3x64x64x1 .f32 := (extractStridedSlice S8x3x64x64x1 ![0, 0, 0, 0, 4] · slices_S8x3x64x64x6_S8x3x64x64x1_0_0_0_0_4) main_arg1
  let main_v2 : FVec F S8x3x64x64 .f32 := shapeCast S8x3x64x64 main_v1 shapeCasts_S8x3x64x64x1_S8x3x64x64
  let main_v3 : FVec F S8x3x64x64 .f32 := Host.absf main_v0
  let main_cst : FVec F S_ .f32 := constant S_ .f32 0x7F800000#32
  let main_v4 : FVec F S8x3x64x64 .f32 := broadcastInDim S8x3x64x64 ![] bcast_S_S8x3x64x64 main_cst
  let main_v5 : IVec S8x3x64x64 1 := cmpf .olt main_v3 main_v4
  let main_c : IVec S_ 1 := constantI S_ 1 1#1
  let main_v6 : IVec S_ 1 := (fun x v => Host.reduce IntOp.andi x v reducesTo_S8x3x64x64_S_d0_1_2_3 h_S_) main_v5 main_c
  let main_v7 : FVec F S8x3x64x64 .f32 := Host.absf main_v2
  let main_cst_0 : FVec F S_ .f32 := constant S_ .f32 0x7F800000#32
  let main_v8 : FVec F S8x3x64x64 .f32 := broadcastInDim S8x3x64x64 ![] bcast_S_S8x3x64x64 main_cst_0
  let main_v9 : IVec S8x3x64x64 1 := cmpf .olt main_v7 main_v8
  let main_c_1 : IVec S_ 1 := constantI S_ 1 1#1
  let main_v10 : IVec S_ 1 := (fun x v => Host.reduce IntOp.andi x v reducesTo_S8x3x64x64_S_d0_1_2_3 h_S_) main_v9 main_c_1
  let main_v11 : IVec S_ 1 := andi main_v6 main_v10
  main_v11
-- ==== Kernel.lean ====
abbrev S8x255x64x64 : Shape := ⟨4, ![8, 255, 64, 64]⟩
abbrev S8x3x64x64x6 : Shape := ⟨5, ![8, 3, 64, 64, 6]⟩
abbrev S8x255x32x128 : Shape := ⟨4, ![8, 255, 32, 128]⟩
abbrev S8x3x64x64x1 : Shape := ⟨5, ![8, 3, 64, 64, 1]⟩
abbrev S8x3x64x64 : Shape := ⟨4, ![8, 3, 64, 64]⟩
abbrev S8x3x32x128 : Shape := ⟨4, ![8, 3, 32, 128]⟩
abbrev S1x1 : Shape := ⟨2, ![1, 1]⟩
abbrev S1x255x16x128 : Shape := ⟨4, ![1, 255, 16, 128]⟩
abbrev S1x3x16x128 : Shape := ⟨4, ![1, 3, 16, 128]⟩
abbrev S6 : Shape := ⟨1, ![6]⟩
abbrev S1 : Shape := ⟨1, ![1]⟩
abbrev S255x16x128 : Shape := ⟨3, ![255, 16, 128]⟩
abbrev S16x128 : Shape := ⟨2, ![16, 128]⟩
abbrev S80x16x128 : Shape := ⟨3, ![80, 16, 128]⟩
abbrev S1x16x128 : Shape := ⟨3, ![1, 16, 128]⟩
abbrev S1x1x16x128 : Shape := ⟨4, ![1, 1, 16, 128]⟩
abbrev S1x1x1 : Shape := ⟨3, ![1, 1, 1]⟩
abbrev S_ : Shape := ⟨0, ![]⟩

abbrev nBuf : Space → Nat
  | .hbm => 23
  | .vmem => 14
  | .smem => 2
  | _ => 0

abbrev bufTy : (tb : Table) → Fin (tcTables nBuf tb) → BufTy
  | .hbm, ⟨0, _⟩ => ⟨S8x255x64x64, .f32⟩
  | .hbm, ⟨1, _⟩ => ⟨S8x3x64x64x6, .f32⟩
  | .hbm, ⟨2, _⟩ => ⟨S8x255x32x128, .f32⟩
  | .hbm, ⟨3, _⟩ => ⟨S8x3x64x64x1, .f32⟩
  | .hbm, ⟨4, _⟩ => ⟨S8x3x64x64, .f32⟩
  | .hbm, ⟨5, _⟩ => ⟨S8x3x32x128, .f32⟩
  | .hbm, ⟨6, _⟩ => ⟨S8x3x64x64x1, .f32⟩
  | .hbm, ⟨7, _⟩ => ⟨S8x3x64x64, .f32⟩
  | .hbm, ⟨8, _⟩ => ⟨S8x3x32x128, .f32⟩
  | .hbm, ⟨9, _⟩ => ⟨S8x3x64x64x1, .f32⟩
  | .hbm, ⟨10, _⟩ => ⟨S8x3x64x64, .f32⟩
  | .hbm, ⟨11, _⟩ => ⟨S8x3x32x128, .f32⟩
  | .hbm, ⟨12, _⟩ => ⟨S8x3x64x64x1, .f32⟩
  | .hbm, ⟨13, _⟩ => ⟨S8x3x64x64, .f32⟩
  | .hbm, ⟨14, _⟩ => ⟨S8x3x32x128, .f32⟩
  | .hbm, ⟨15, _⟩ => ⟨S8x3x64x64x1, .f32⟩
  | .hbm, ⟨16, _⟩ => ⟨S8x3x64x64, .f32⟩
  | .hbm, ⟨17, _⟩ => ⟨S8x3x32x128, .f32⟩
  | .hbm, ⟨18, _⟩ => ⟨S8x3x64x64x1, .f32⟩
  | .hbm, ⟨19, _⟩ => ⟨S8x3x64x64, .f32⟩
  | .hbm, ⟨20, _⟩ => ⟨S8x3x32x128, .f32⟩
  | .hbm, ⟨21, _⟩ => ⟨S1x1, .f32⟩
  | .hbm, ⟨22, _⟩ => ⟨S_, .f32⟩
  | .local _ .vmem, ⟨0, _⟩ => ⟨S1x255x16x128, .f32⟩
  | .local _ .vmem, ⟨1, _⟩ => ⟨S1x255x16x128, .f32⟩
  | .local _ .vmem, ⟨2, _⟩ => ⟨S1x3x16x128, .f32⟩
  | .local _ .vmem, ⟨3, _⟩ => ⟨S1x3x16x128, .f32⟩
  | .local _ .vmem, ⟨4, _⟩ => ⟨S1x3x16x128, .f32⟩
  | .local _ .vmem, ⟨5, _⟩ => ⟨S1x3x16x128, .f32⟩
  | .local _ .vmem, ⟨6, _⟩ => ⟨S1x3x16x128, .f32⟩
  | .local _ .vmem, ⟨7, _⟩ => ⟨S1x3x16x128, .f32⟩
  | .local _ .vmem, ⟨8, _⟩ => ⟨S1x3x16x128, .f32⟩
  | .local _ .vmem, ⟨9, _⟩ => ⟨S1x3x16x128, .f32⟩
  | .local _ .vmem, ⟨10, _⟩ => ⟨S1x3x16x128, .f32⟩
  | .local _ .vmem, ⟨11, _⟩ => ⟨S1x3x16x128, .f32⟩
  | .local _ .vmem, ⟨12, _⟩ => ⟨S1x3x16x128, .f32⟩
  | .local _ .vmem, ⟨13, _⟩ => ⟨S1x3x16x128, .f32⟩
  | .local _ .smem, ⟨0, _⟩ => ⟨S1x1, .f32⟩
  | .local _ .smem, ⟨1, _⟩ => ⟨S6, .f32⟩
  | _, _ => ⟨S8x255x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg0 : BitVec 32 := BitVec.ofNat 32 (i 0).val
  let c7_i32 : BitVec 32 := 7#32
  let v628 : BitVec 1 := Scalar.cmpi .eq arg0 c7_i32
  let arg1 : BitVec 32 := BitVec.ofNat 32 (i 1).val
  let c1_i32_223 : BitVec 32 := 1#32
  let v629 : BitVec 1 := Scalar.cmpi .eq arg1 c1_i32_223
  let v630 : BitVec 1 := Scalar.andi v628 v629
  let v631 : BitVec 32 := Scalar.extui v630
  let c0_i32_224 : BitVec 32 := 0#32
  let v632 : BitVec 1 := Scalar.cmpi .ne v631 c0_i32_224
  v632

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x255x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== KernelIdeal.lean ====
variable {F : FTy → Type} [FloatOps F] [Named F]
def κ : String → Option EReal := fun
  | "inv_classes" => some ((1 / 80 : ℝ) : EReal)
  | "inv_h0" => some ((4 / 45 : ℝ) : EReal)
  | "inv_h1" => some ((4 / 99 : ℝ) : EReal)
  | "inv_h2" => some ((4 / 163 : ℝ) : EReal)
  | "inv_w0" => some ((2 / 29 : ℝ) : EReal)
  | "inv_w1" => some ((2 / 39 : ℝ) : EReal)
  | "inv_w2" => some ((8 / 373 : ℝ) : EReal)
  | _ => none
-- ==== ReferenceIdeal.lean ====
abbrev S8x255x64x64 : Shape := ⟨4, ![8, 255, 64, 64]⟩
abbrev S8x3x64x64x6 : Shape := ⟨5, ![8, 3, 64, 64, 6]⟩
abbrev S_ : Shape := ⟨0, ![]⟩
abbrev S1 : Shape := ⟨1, ![1]⟩
abbrev S3 : Shape := ⟨1, ![3]⟩
abbrev S64 : Shape := ⟨1, ![64]⟩
abbrev S64x1 : Shape := ⟨2, ![64, 1]⟩
abbrev S64x64 : Shape := ⟨2, ![64, 64]⟩
abbrev S1x64 : Shape := ⟨2, ![1, 64]⟩
abbrev S1x3x1x1 : Shape := ⟨4, ![1, 3, 1, 1]⟩
abbrev S8x12x64x64 : Shape := ⟨4, ![8, 12, 64, 64]⟩
abbrev S8x3x4x64x64 : Shape := ⟨5, ![8, 3, 4, 64, 64]⟩
abbrev S8x3x64x64x4 : Shape := ⟨5, ![8, 3, 64, 64, 4]⟩
abbrev S8x3x64x64 : Shape := ⟨4, ![8, 3, 64, 64]⟩
abbrev S8x240x64x64 : Shape := ⟨4, ![8, 240, 64, 64]⟩
abbrev S8x3x80x64x64 : Shape := ⟨5, ![8, 3, 80, 64, 64]⟩
abbrev S8x3x64x64x80 : Shape := ⟨5, ![8, 3, 64, 64, 80]⟩
abbrev S8x3x64x64x1 : Shape := ⟨5, ![8, 3, 64, 64, 1]⟩
abbrev S1x1x64x64 : Shape := ⟨4, ![1, 1, 64, 64]⟩
abbrev S1x1x1x1x80 : Shape := ⟨5, ![1, 1, 1, 1, 80]⟩

abbrev nBuf : Space → Nat
  | .hbm => 302
  | .vmem => 0
  | .smem => 0
  | _ => 0

abbrev hbmTy0_0 (i : Nat) : BufTy := match i % 128 with
  | 0 => ⟨S8x255x64x64, .f32⟩
  | 1 => ⟨S8x3x64x64x6, .f32⟩
  | 2 => ⟨S_, .f32⟩
  | 3 => ⟨S_, .f32⟩
  | 4 => ⟨S_, .f32⟩
  | 5 => ⟨S1, .f32⟩
  | 6 => ⟨S1, .f32⟩
  | 7 => ⟨S1, .f32⟩
  | 8 => ⟨S3, .f32⟩
  | 9 => ⟨S_, .f32⟩
  | 10 => ⟨S_, .f32⟩
  | 11 => ⟨S_, .f32⟩
  | 12 => ⟨S1, .f32⟩
  | 13 => ⟨S1, .f32⟩
  | 14 => ⟨S1, .f32⟩
  | 15 => ⟨S3, .f32⟩
  | 16 => ⟨S64, .f32⟩
  | 17 => ⟨S64x1, .f32⟩
  | 18 => ⟨S64x64, .f32⟩
  | 19 => ⟨S64, .f32⟩
  | 20 => ⟨S1x64, .f32⟩
  | 21 => ⟨S64x64, .f32⟩
  | 22 => ⟨S1x3x1x1, .f32⟩
  | 23 => ⟨S1x3x1x1, .f32⟩
  | 24 => ⟨S8x12x64x64, .f32⟩
  | 25 => ⟨S8x3x4x64x64, .f32⟩
  | 26 => ⟨S8x3x64x64x4, .f32⟩
  | 27 => ⟨S8x3x64x64, .f32⟩
  | 28 => ⟨S8x240x64x64, .f32⟩
  | 29 => ⟨S8x3x80x64x64, .f32⟩
  | 30 => ⟨S8x3x64x64x80, .f32⟩
  | 31 => ⟨S8x3x64x64x1, .f32⟩
  | 32 => ⟨S8x3x64x64, .f32⟩
  | 33 => ⟨S_, .f32⟩
  | 34 => ⟨S8x3x64x64, .f32⟩
  | 35 => ⟨S8x3x64x64, .i1⟩
  | 36 => ⟨S8x3x64x64x1, .f32⟩
  | 37 => ⟨S8x3x64x64, .f32⟩
  | 38 => ⟨S_, .f32⟩
  | 39 => ⟨S8x3x64x64, .f32⟩
  | 40 => ⟨S8x3x64x64, .f32⟩
  | 41 => ⟨S1x1x64x64, .f32⟩
  | 42 => ⟨S8x3x64x64, .f32⟩
  | 43 => ⟨S8x3x64x64, .f32⟩
  | 44 => ⟨S8x3x64x64, .f32⟩
  | 45 => ⟨S8x3x64x64, .f32⟩
  | 46 => ⟨S8x3x64x64x1, .f32⟩
  | 47 => ⟨S8x3x64x64, .f32⟩
  | 48 => ⟨S_, .f32⟩
  | 49 => ⟨S8x3x64x64, .f32⟩
  | 50 => ⟨S8x3x64x64, .f32⟩
  | 51 => ⟨S1x1x64x64, .f32⟩
  | 52 => ⟨S8x3x64x64, .f32⟩
  | 53 => ⟨S8x3x64x64, .f32⟩
  | 54 => ⟨S8x3x64x64, .f32⟩
  | 55 => ⟨S8x3x64x64, .f32⟩
  | 56 => ⟨S8x3x64x64x1, .f32⟩
  | 57 => ⟨S8x3x64x64, .f32⟩
  | 58 => ⟨S_, .f32⟩
  | 59 => ⟨S8x3x64x64, .f32⟩
  | 60 => ⟨S8x3x64x64, .f32⟩
  | 61 => ⟨S1x1x64x64, .f32⟩
  | 62 => ⟨S8x3x64x64, .f32⟩
  | 63 => ⟨S8x3x64x64, .f32⟩
  | 64 => ⟨S8x3x64x64, .f32⟩
  | 65 => ⟨S8x3x64x64, .f32⟩
  | 66 => ⟨S8x3x64x64x1, .f32⟩
  | 67 => ⟨S8x3x64x64, .f32⟩
  | 68 => ⟨S_, .f32⟩
  | 69 => ⟨S8x3x64x64, .f32⟩
  | 70 => ⟨S8x3x64x64, .f32⟩
  | 71 => ⟨S1x1x64x64, .f32⟩
  | 72 => ⟨S8x3x64x64, .f32⟩
  | 73 => ⟨S8x3x64x64, .f32⟩
  | 74 => ⟨S8x3x64x64, .f32⟩
  | 75 => ⟨S8x3x64x64, .f32⟩
  | 76 => ⟨S8x3x64x64x1, .f32⟩
  | 77 => ⟨S8x3x64x64x1, .f32⟩
  | 78 => ⟨S8x3x64x64x1, .f32⟩
  | 79 => ⟨S8x3x64x64x1, .f32⟩
  | 80 => ⟨S8x3x64x64x4, .f32⟩
  | 81 => ⟨S8x3x64x64x1, .f32⟩
  | 82 => ⟨S8x3x64x64, .f32⟩
  | 83 => ⟨S8x3x64x64x1, .f32⟩
  | 84 => ⟨S8x3x64x64, .f32⟩
  | 85 => ⟨S_, .f32⟩
  | 86 => ⟨S8x3x64x64, .f32⟩
  | 87 => ⟨S8x3x64x64, .f32⟩
  | 88 => ⟨S8x3x64x64, .f32⟩
  | 89 => ⟨S8x3x64x64x1, .f32⟩
  | 90 => ⟨S8x3x64x64, .f32⟩
  | 91 => ⟨S8x3x64x64x1, .f32⟩
  | 92 => ⟨S8x3x64x64, .f32⟩
  | 93 => ⟨S_, .f32⟩
  | 94 => ⟨S8x3x64x64, .f32⟩
  | 95 => ⟨S8x3x64x64, .f32⟩
  | 96 => ⟨S8x3x64x64, .f32⟩
  | 97 => ⟨S8x3x64x64x1, .f32⟩
  | 98 => ⟨S8x3x64x64, .f32⟩
  | 99 => ⟨S8x3x64x64x1, .f32⟩
  | 100 => ⟨S8x3x64x64, .f32⟩
  | 101 => ⟨S_, .f32⟩
  | 102 => ⟨S8x3x64x64, .f32⟩
  | 103 => ⟨S8x3x64x64, .f32⟩
  | 104 => ⟨S8x3x64x64, .f32⟩
  | 105 => ⟨S8x3x64x64x1, .f32⟩
  | 106 => ⟨S8x3x64x64, .f32⟩
  | 107 => ⟨S8x3x64x64x1, .f32⟩
  | 108 => ⟨S8x3x64x64, .f32⟩
  | 109 => ⟨S_, .f32⟩
  | 110 => ⟨S8x3x64x64, .f32⟩
  | 111 => ⟨S8x3x64x64, .f32⟩
  | 112 => ⟨S8x3x64x64, .f32⟩
  | 113 => ⟨S8x3x64x64x1, .f32⟩
  | 114 => ⟨S8x3x64x64, .f32⟩
  | 115 => ⟨S8x3x64x64x1, .f32⟩
  | 116 => ⟨S8x3x64x64, .f32⟩
  | 117 => ⟨S_, .f32⟩
  | 118 => ⟨S8x3x64x64, .f32⟩
  | 119 => ⟨S8x3x64x64, .f32⟩
  | 120 => ⟨S8x3x64x64, .f32⟩
  | 121 => ⟨S8x3x64x64x1, .f32⟩
  | 122 => ⟨S8x3x64x64, .f32⟩
  | 123 => ⟨S8x3x64x64x1, .f32⟩
  | 124 => ⟨S8x3x64x64, .f32⟩
  | 125 => ⟨S_, .f32⟩
  | 126 => ⟨S8x3x64x64, .f32⟩
  | 127 => ⟨S8x3x64x64, .f32⟩
  | _ => ⟨S8x255x64x64, .f32⟩

abbrev hbmTy0_1 (i : Nat) : BufTy := match i % 128 with
  | 0 => ⟨S8x3x64x64, .f32⟩
  | 1 => ⟨S8x3x64x64x1, .f32⟩
  | 2 => ⟨S8x3x64x64, .f32⟩
  | 3 => ⟨S8x3x64x64x1, .f32⟩
  | 4 => ⟨S8x3x64x64, .f32⟩
  | 5 => ⟨S_, .f32⟩
  | 6 => ⟨S8x3x64x64, .f32⟩
  | 7 => ⟨S8x3x64x64, .f32⟩
  | 8 => ⟨S8x3x64x64, .f32⟩
  | 9 => ⟨S8x3x64x64x1, .f32⟩
  | 10 => ⟨S8x3x64x64, .f32⟩
  | 11 => ⟨S8x3x64x64x1, .f32⟩
  | 12 => ⟨S8x3x64x64, .f32⟩
  | 13 => ⟨S_, .f32⟩
  | 14 => ⟨S8x3x64x64, .f32⟩
  | 15 => ⟨S8x3x64x64, .f32⟩
  | 16 => ⟨S8x3x64x64, .f32⟩
  | 17 => ⟨S8x3x64x64, .f32⟩
  | 18 => ⟨S8x3x64x64, .f32⟩
  | 19 => ⟨S8x3x64x64, .f32⟩
  | 20 => ⟨S_, .f32⟩
  | 21 => ⟨S_, .f32⟩
  | 22 => ⟨S8x3x64x64, .f32⟩
  | 23 => ⟨S8x3x64x64, .f32⟩
  | 24 => ⟨S8x3x64x64, .f32⟩
  | 25 => ⟨S8x3x64x64, .f32⟩
  | 26 => ⟨S8x3x64x64, .f32⟩
  | 27 => ⟨S_, .f32⟩
  | 28 => ⟨S_, .f32⟩
  | 29 => ⟨S8x3x64x64, .f32⟩
  | 30 => ⟨S8x3x64x64, .f32⟩
  | 31 => ⟨S8x3x64x64, .f32⟩
  | 32 => ⟨S8x3x64x64, .f32⟩
  | 33 => ⟨S_, .f32⟩
  | 34 => ⟨S_, .f32⟩
  | 35 => ⟨S8x3x64x64, .f32⟩
  | 36 => ⟨S8x3x64x64, .f32⟩
  | 37 => ⟨S8x3x64x64, .f32⟩
  | 38 => ⟨S_, .f32⟩
  | 39 => ⟨S_, .f32⟩
  | 40 => ⟨S8x3x64x64, .f32⟩
  | 41 => ⟨S8x3x64x64, .f32⟩
  | 42 => ⟨S8x3x64x64, .f32⟩
  | 43 => ⟨S8x3x64x64, .f32⟩
  | 44 => ⟨S_, .f32⟩
  | 45 => ⟨S_, .f32⟩
  | 46 => ⟨S8x3x64x64, .f32⟩
  | 47 => ⟨S8x3x64x64, .f32⟩
  | 48 => ⟨S8x3x64x64, .f32⟩
  | 49 => ⟨S_, .f32⟩
  | 50 => ⟨S_, .f32⟩
  | 51 => ⟨S8x3x64x64, .f32⟩
  | 52 => ⟨S8x3x64x64, .f32⟩
  | 53 => ⟨S8x3x64x64, .f32⟩
  | 54 => ⟨S8x3x64x64, .f32⟩
  | 55 => ⟨S8x3x64x64, .f32⟩
  | 56 => ⟨S_, .f32⟩
  | 57 => ⟨S8x3x64x64, .f32⟩
  | 58 => ⟨S8x3x64x64, .f32⟩
  | 59 => ⟨S8x3x64x64, .f32⟩
  | 60 => ⟨S_, .f32⟩
  | 61 => ⟨S8x3x64x64, .f32⟩
  | 62 => ⟨S8x3x64x64, .i1⟩
  | 63 => ⟨S8x3x64x64, .i1⟩
  | 64 => ⟨S8x3x64x64, .i1⟩
  | 65 => ⟨S8x3x64x64x1, .f32⟩
  | 66 => ⟨S8x3x64x64, .f32⟩
  | 67 => ⟨S_, .f32⟩
  | 68 => ⟨S8x3x64x64, .f32⟩
  | 69 => ⟨S8x3x64x64, .f32⟩
  | 70 => ⟨S8x3x64x64, .f32⟩
  | 71 => ⟨S8x3x64x64, .f32⟩
  | 72 => ⟨S8x3x64x64, .f32⟩
  | 73 => ⟨S8x3x64x64, .f32⟩
  | 74 => ⟨S8x3x64x64, .f32⟩
  | 75 => ⟨S8x3x64x64, .f32⟩
  | 76 => ⟨S8x3x64x64, .f32⟩
  | 77 => ⟨S8x3x64x64, .i32⟩
  | 78 => ⟨S_, .i32⟩
  | 79 => ⟨S_, .i32⟩
  | 80 => ⟨S_, .f32⟩
  | 81 => ⟨S8x3x64x64, .i32⟩
  | 82 => ⟨S_, .i32⟩
  | 83 => ⟨S_, .i32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S8x3x64x64, .f32⟩
  | 92 => ⟨S8x3x64x64, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S8x3x64x64, .f32⟩
  | 106 => ⟨S8x3x64x64, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S8x3x64x64x4, .f32⟩
  | 114 => ⟨S8x3x64x64x4, .f32⟩
  | 115 => ⟨S_, .f32⟩
  | 116 => ⟨S8x3x64x64, .f32⟩
  | 117 => ⟨S_, .f32⟩
  | 118 => ⟨S8x3x64x64, .f32⟩
  | 119 => ⟨S8x3x64x64, .f32⟩
  | 120 => ⟨S_, .f32⟩
  | 121 => ⟨S_, .f32⟩
  | 122 => ⟨S8x3x64x64, .f32⟩
  | 123 => ⟨S8x3x64x64, .f32⟩
  | 124 => ⟨S_, .f32⟩
  | 125 => ⟨S_, .f32⟩
  | 126 => ⟨S_, .f32⟩
  | 127 => ⟨S_, .f32⟩
  | _ => ⟨S8x255x64x64, .f32⟩

abbrev hbmTy0_2 (i : Nat) : BufTy := match i % 128 with
  | 0 => ⟨S_, .f32⟩
  | 1 => ⟨S8x3x64x64x1, .f32⟩
  | 2 => ⟨S8x3x64x64, .f32⟩
  | 3 => ⟨S8x3x64x64, .i32⟩
  | 4 => ⟨S8x3x64x64x1, .i32⟩
  | 5 => ⟨S1x1x1x1x80, .i32⟩
  | 6 => ⟨S8x3x64x64x80, .i32⟩
  | 7 => ⟨S8x3x64x64x80, .i32⟩
  | 8 => ⟨S8x3x64x64x80, .i1⟩
  | 9 => ⟨S8x3x64x64x80, .f32⟩
  | 10 => ⟨S_, .f32⟩
  | 11 => ⟨S8x3x64x64x80, .f32⟩
  | 12 => ⟨S8x3x64x64x80, .f32⟩
  | 13 => ⟨S8x3x64x64x80, .f32⟩
  | 14 => ⟨S8x3x64x64x80, .f32⟩
  | 15 => ⟨S8x3x64x64x80, .f32⟩
  | 16 => ⟨S8x3x64x64x80, .f32⟩
  | 17 => ⟨S8x3x64x64x80, .f32⟩
  | 18 => ⟨S8x3x64x64x80, .f32⟩
  | 19 => ⟨S8x3x64x64x80, .f32⟩
  | 20 => ⟨S_, .f32⟩
  | 21 => ⟨S8x3x64x64, .f32⟩
  | 22 => ⟨S_, .f32⟩
  | 23 => ⟨S8x3x64x64, .f32⟩
  | 24 => ⟨S8x3x64x64, .f32⟩
  | 25 => ⟨S8x3x64x64, .i32⟩
  | 26 => ⟨S_, .i32⟩
  | 27 => ⟨S_, .i32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S8x3x64x64, .f32⟩
  | 36 => ⟨S8x3x64x64, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | _ => ⟨S8x255x64x64, .f32⟩

abbrev hbmTy (i : Nat) : BufTy := match i / 128 with
  | 0 => hbmTy0_0 i
  | 1 => hbmTy0_1 i
  | 2 => hbmTy0_2 i
  | _ => ⟨S8x255x64x64, .f32⟩

abbrev bufTy : (tb : Table) → Fin (tcTables nBuf tb) → BufTy
  | .hbm, ⟨i, _⟩ => hbmTy i
  | _, _ => ⟨S8x255x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_cst_3 : Ref sig .tc := ⟨.hbm, 10, rfl⟩
abbrev main_cst_4 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_9 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_10 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_11 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_12 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_13 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_cst_14 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_15 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_16 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_cst_17 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_18 : Ref sig .tc := ⟨.hbm, 148, rfl⟩
abbrev main_call0_v0 : Ref sig .tc := ⟨.hbm, 149, rfl⟩
abbrev main_call0_v1 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_cst_19 : Ref sig .tc := ⟨.hbm, 155, rfl⟩
abbrev main_call1_v0 : Ref sig .tc := ⟨.hbm, 156, rfl⟩
abbrev main_call1_v1 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_cst_20 : Ref sig .tc := ⟨.hbm, 161, rfl⟩
abbrev main_call2_v0 : Ref sig .tc := ⟨.hbm, 162, rfl⟩
abbrev main_call2_v1 : Ref sig .tc := ⟨.hbm, 163, rfl⟩
abbrev main_v134 : Ref sig .tc := ⟨.hbm, 164, rfl⟩
abbrev main_v135 : Ref sig .tc := ⟨.hbm, 165, rfl⟩
abbrev main_cst_21 : Ref sig .tc := ⟨.hbm, 166, rfl⟩
abbrev main_call3_v0 : Ref sig .tc := ⟨.hbm, 167, rfl⟩
abbrev main_call3_v1 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_22 : Ref sig .tc := ⟨.hbm, 172, rfl⟩
abbrev main_call4_v0 : Ref sig .tc := ⟨.hbm, 173, rfl⟩
abbrev main_call4_v1 : Ref sig .tc := ⟨.hbm, 174, rfl⟩
abbrev main_v139 : Ref sig .tc := ⟨.hbm, 175, rfl⟩
abbrev main_v140 : Ref sig .tc := ⟨.hbm, 176, rfl⟩
abbrev main_cst_23 : Ref sig .tc := ⟨.hbm, 177, rfl⟩
abbrev main_call5_v0 : Ref sig .tc := ⟨.hbm, 178, rfl⟩
abbrev main_call5_v1 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_24 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_25 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_26 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_c : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_c_27 : Ref sig .tc := ⟨.hbm, 210, rfl⟩
abbrev main_v167 : Ref sig .tc := ⟨.hbm, 211, rfl⟩
abbrev main_v168 : Ref sig .tc := ⟨.hbm, 212, rfl⟩
abbrev main_cst_28 : Ref sig .tc := ⟨.hbm, 213, rfl⟩
abbrev main_v169 : Ref sig .tc := ⟨.hbm, 214, rfl⟩
abbrev main_cst_29 : Ref sig .tc := ⟨.hbm, 215, rfl⟩
abbrev main_v170 : Ref sig .tc := ⟨.hbm, 216, rfl⟩
abbrev main_cst_30 : Ref sig .tc := ⟨.hbm, 217, rfl⟩
abbrev main_call6_v0 : Ref sig .tc := ⟨.hbm, 218, rfl⟩
abbrev main_call6_v1 : Ref sig .tc := ⟨.hbm, 219, rfl⟩
abbrev main_v171 : Ref sig .tc := ⟨.hbm, 220, rfl⟩
abbrev main_cst_31 : Ref sig .tc := ⟨.hbm, 221, rfl⟩
abbrev main_v172 : Ref sig .tc := ⟨.hbm, 222, rfl⟩
abbrev main_cst_32 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_cst_33 : Ref sig .tc := ⟨.hbm, 227, rfl⟩
abbrev main_v176 : Ref sig .tc := ⟨.hbm, 228, rfl⟩
abbrev main_cst_34 : Ref sig .tc := ⟨.hbm, 229, rfl⟩
abbrev main_v177 : Ref sig .tc := ⟨.hbm, 230, rfl⟩
abbrev main_cst_35 : Ref sig .tc := ⟨.hbm, 231, rfl⟩
abbrev main_call7_v0 : Ref sig .tc := ⟨.hbm, 232, rfl⟩
abbrev main_call7_v1 : Ref sig .tc := ⟨.hbm, 233, rfl⟩
abbrev main_v178 : Ref sig .tc := ⟨.hbm, 234, rfl⟩
abbrev main_cst_36 : Ref sig .tc := ⟨.hbm, 235, rfl⟩
abbrev main_v179 : Ref sig .tc := ⟨.hbm, 236, rfl⟩
abbrev main_cst_37 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_cst_38 : Ref sig .tc := ⟨.hbm, 243, rfl⟩
abbrev main_v185 : Ref sig .tc := ⟨.hbm, 244, rfl⟩
abbrev main_cst_39 : Ref sig .tc := ⟨.hbm, 245, rfl⟩
abbrev main_v186 : Ref sig .tc := ⟨.hbm, 246, rfl⟩
abbrev main_v187 : Ref sig .tc := ⟨.hbm, 247, rfl⟩
abbrev main_cst_40 : Ref sig .tc := ⟨.hbm, 248, rfl⟩
abbrev main_call8_v0 : Ref sig .tc := ⟨.hbm, 249, rfl⟩
abbrev main_call8_v1 : Ref sig .tc := ⟨.hbm, 250, rfl⟩
abbrev main_v188 : Ref sig .tc := ⟨.hbm, 251, rfl⟩
abbrev main_cst_41 : Ref sig .tc := ⟨.hbm, 252, rfl⟩
abbrev main_v189 : Ref sig .tc := ⟨.hbm, 253, rfl⟩
abbrev main_cst_42 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_call9_v0 : Ref sig .tc := ⟨.hbm, 260, rfl⟩
abbrev main_call9_v1 : Ref sig .tc := ⟨.hbm, 261, rfl⟩
abbrev main_call9_v2 : Ref sig .tc := ⟨.hbm, 262, rfl⟩
abbrev main_call9_v3 : Ref sig .tc := ⟨.hbm, 263, rfl⟩
abbrev main_call9_v4 : Ref sig .tc := ⟨.hbm, 264, rfl⟩
abbrev main_v195 : Ref sig .tc := ⟨.hbm, 265, rfl⟩
abbrev main_cst_43 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_cst_44 : Ref sig .tc := ⟨.hbm, 276, rfl⟩
abbrev main_v205 : Ref sig .tc := ⟨.hbm, 277, rfl⟩
abbrev main_cst_45 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_c_46 : Ref sig .tc := ⟨.hbm, 282, rfl⟩
abbrev main_v209 : Ref sig .tc := ⟨.hbm, 283, rfl⟩
abbrev main_v210 : Ref sig .tc := ⟨.hbm, 284, rfl⟩
abbrev main_cst_47 : Ref sig .tc := ⟨.hbm, 285, rfl⟩
abbrev main_v211 : Ref sig .tc := ⟨.hbm, 286, rfl⟩
abbrev main_cst_48 : Ref sig .tc := ⟨.hbm, 287, rfl⟩
abbrev main_v212 : Ref sig .tc := ⟨.hbm, 288, rfl⟩
abbrev main_cst_49 : Ref sig .tc := ⟨.hbm, 289, rfl⟩
abbrev main_call10_v0 : Ref sig .tc := ⟨.hbm, 290, rfl⟩
abbrev main_call10_v1 : Ref sig .tc := ⟨.hbm, 291, rfl⟩
abbrev main_v213 : Ref sig .tc := ⟨.hbm, 292, rfl⟩
abbrev main_cst_50 : Ref sig .tc := ⟨.hbm, 293, rfl⟩
abbrev main_v214 : Ref sig .tc := ⟨.hbm, 294, rfl⟩
abbrev main_cst_51 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩

abbrev nD : Nat := 1
abbrev τ : Topo := Topo.v7x

variable {F : FTy → Type} [FloatOps F]
-- ==== Proof.Block.lean ====
/-
  What ONE grid point of the kernel adds into its six accumulator words, written once for all three anchors.
  The kernel unrolls its loop over the anchors; here an anchor's planes are one record (`Planes`) and the six sums of
  the point are functions of three such records (`words`).
-/
module

public import proofs.«01_k».proof.Proof.Gen.KernelIdeal.Skeleton
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal Cert.KernelIdeal.Gen

variable {F : FTy → Type} [FloatOps F] [Named F]

/-- A plane filled with one literal. -/
abbrev fill (S : Shape) (b : BitVec 32) : FVec F S .f32 := broadcast S (Scalar.ofBits .f32 b)

/-- One anchor's planes at one grid point: the predicted box, objectness and class scores, the six target planes and
    the two reciprocal anchor extents. -/
structure Planes (F : FTy → Type) where
  px : FVec F S16x128 .f32
  py : FVec F S16x128 .f32
  pw : FVec F S16x128 .f32
  ph : FVec F S16x128 .f32
  obj : FVec F S16x128 .f32
  cls : FVec F S80x16x128 .f32
  t0 : FVec F S16x128 .f32
  t1 : FVec F S16x128 .f32
  t2 : FVec F S16x128 .f32
  t3 : FVec F S16x128 .f32
  t4 : FVec F S16x128 .f32
  t5 : FVec F S16x128 .f32
  iw : F .f32
  ih : F .f32

/-- A target coordinate in units of the anchor: `(t · 64 − offset) · (1 / anchor)`. -/
def coord (v : F .f32) (o t : FVec F S16x128 .f32) : FVec F S16x128 .f32 :=
  mulf (subf (mulf t (fill S16x128 0x42800000#32)) o) (broadcast S16x128 v)

/-- Lower edge of a box side with centre `c` and extent `e`. -/
def lo (c e : FVec F S16x128 .f32) : FVec F S16x128 .f32 := subf c (mulf e (fill S16x128 0x3F000000#32))
/-- Upper edge of a box side. -/
def hi (c e : FVec F S16x128 .f32) : FVec F S16x128 .f32 := addf c (mulf e (fill S16x128 0x3F000000#32))
/-- The part above zero. -/
def pos (x : FVec F S16x128 .f32) : FVec F S16x128 .f32 := maximumf (fill S16x128 0x00000000#32) x
/-- Overlap of two intervals. -/
def lap (c e c' e' : FVec F S16x128 .f32) : FVec F S16x128 .f32 :=
  pos (subf (minimumf (hi c e) (hi c' e')) (maximumf (lo c e) (lo c' e')))
/-- Area of a box. -/
def area (x y w h : FVec F S16x128 .f32) : FVec F S16x128 .f32 :=
  mulf (pos (subf (hi x w) (lo x w))) (pos (subf (hi y h) (lo y h)))
/-- Intersection over union of two boxes. -/
def iou (x y w h x' y' w' h' : FVec F S16x128 .f32) : FVec F S16x128 .f32 :=
  divf (mulf (lap x w x' w') (lap y h y' h'))
    (addf (subf (addf (area x y w h) (area x' y' w' h')) (mulf (lap x w x' w') (lap y h y' h')))
      (fill S16x128 0x3089705F#32))
/-- A truth plane as the numbers zero and one. -/
def num (b : IVec S16x128 1) : FVec F S16x128 .f32 := sitofp .f32 (extui 32 b natLt_1_32)
/-- `log (1 + exp (−|x|))`. -/
def soft (S : Shape) (x : FVec F S .f32) : FVec F S .f32 :=
  log (addf (fill S 0x3F800000#32) (exp (subf (fill S 0x00000000#32) (absf x))))
/-- A square. -/
def sq (x : FVec F S16x128 .f32) : FVec F S16x128 .f32 := mulf x x
/-- The sum of a plane, as the kernel takes it. -/
def total (x : FVec F S16x128 .f32) : F .f32 :=
  extractAt ![0, 0, 0] (shapeCast S1x1x1 (multiReduction .add [1, 2] S1 (shapeCast S1x16x128 x shapeCasts_S16x128_S1x16x128)
    0x00000000#32 reduces_S1x16x128_S1 (.inl rfl) rfl) shapeCasts_S1_S1x1x1) inpos_S1x1x1_p0_0_0

/-- Row offsets of the point's cells. -/
abbrev xo (i : grid0.Coords) : FVec F S16x128 .f32 := k0_pay9 i
/-- Column offsets of the point's cells. -/
abbrev yo (i : grid0.Coords) : FVec F S16x128 .f32 := k0_pay10 (k0_pay8 i) 64#32

namespace Planes
variable (i : grid0.Coords) (p : Planes F)

/-- Target box, x. -/
def tx : FVec F S16x128 .f32 := coord p.iw (xo i) p.t0
/-- Target box, y. -/
def ty : FVec F S16x128 .f32 := coord p.ih (yo i) p.t1
/-- Target box, width. -/
def tw : FVec F S16x128 .f32 := coord p.iw (xo i) p.t2
/-- Target box, height. -/
def th : FVec F S16x128 .f32 := coord p.ih (yo i) p.t3
/-- Cells that hold a target. -/
def held : IVec S16x128 1 := cmpf .ogt p.t4 (fill S16x128 0x00000000#32)
/-- Cells whose predicted box overlaps a held target enough. -/
def hit : IVec S16x128 1 :=
  andi (cmpf .ogt (iou p.px p.py p.pw p.ph (p.tx i) (p.ty i) (p.tw i) (p.th i)) (fill S16x128 0x3F000000#32)) p.held
/-- Objectness cross entropy. -/
def bce : FVec F S16x128 .f32 :=
  addf (subf (maximumf p.obj (fill S16x128 0x00000000#32)) (mulf p.obj p.t4)) (soft S16x128 p.obj)
/-- Mean squared box error. -/
def box : FVec F S16x128 .f32 :=
  mulf (addf (addf (addf (sq (subf p.px (p.tx i))) (sq (subf p.py (p.ty i)))) (sq (subf p.pw (p.tw i)))) (sq (subf p.ph (p.th i))))
    (fill S16x128 0x3E800000#32)
/-- Mean class cross entropy. -/
def ent : FVec F S16x128 .f32 :=
  mulf (multiReduction .add [0] S16x128
    (subf (addf (maximumf p.cls (fill S80x16x128 0x00000000#32)) (soft S80x16x128 p.cls))
      (select (cmpi .eq (iota .tc S80x16x128 32 [0] iota_S80x16x128_d0_w32)
          (broadcastTo S80x16x128 (fptosi 32 (shapeCast S1x16x128 p.t5 shapeCasts_S16x128_S1x16x128)) broadcasts_S1x16x128_S80x16x128))
        p.cls (fill S80x16x128 0x00000000#32)))
    0x00000000#32 reduces_S80x16x128_S16x128 (.inl rfl) rfl) (broadcast S16x128 (Named.named κ "inv_classes" 0x3C4CCCCD#32))

end Planes

/-- Three planes' sums, added in the kernel's order. -/
def sum3 (f : Planes F → FVec F S16x128 .f32) (p q r : Planes F) : F .f32 :=
  Scalar.addf (Scalar.addf (Scalar.addf (Scalar.ofBits .f32 0x00000000#32) (total (f p))) (total (f q))) (total (f r))

/-- The six numbers one grid point adds into the accumulator. -/
def words (i : grid0.Coords) (p q r : Planes F) : S6.Idx → F .f32 := fun j =>
  ![sum3 (fun p => mulf p.bce (num (p.hit i))) p q r, sum3 (fun p => p.bce) p q r, sum3 (fun p => num (p.hit i)) p q r,
    sum3 (fun p => mulf (p.box i) (num (p.hit i))) p q r, sum3 (fun p => mulf p.ent (num (p.hit i))) p q r,
    sum3 (fun p => num p.held) p q r] (j 0)

/-- A target plane of one anchor cut out of its block. -/
abbrev cut (T : Vec F S1x3x16x128 .f32) (off : Fin 4 → ℕ) (h : ∀ a, off a + S1x1x16x128.size a ≤ S1x3x16x128.size a) : FVec F S16x128 .f32 :=
  shapeCast S16x128 (View.ld (Val := Elt F) (e' := .f32) T (Rect.unit (s := S1x3x16x128) off S1x1x16x128.size h) : Vec F S1x1x16x128 .f32)
    shapeCasts_S1x1x16x128_S16x128

/-- A prediction plane cut out of the block of predictions. -/
abbrev chan (X : Vec F S1x255x16x128 .f32) (off : Fin 3 → ℕ) (h : S255x16x128.Slices off S1x16x128) : FVec F S16x128 .f32 :=
  shapeCast S16x128 (extractStridedSlice S1x16x128 off (shapeCast S255x16x128 X shapeCasts_S1x255x16x128_S255x16x128 : FVec F S255x16x128 .f32) h) shapeCasts_S1x16x128_S16x128

/-- The class scores of one anchor cut out of the block of predictions. -/
abbrev chans (X : Vec F S1x255x16x128 .f32) (off : Fin 3 → ℕ) (h : S255x16x128.Slices off S80x16x128) : FVec F S80x16x128 .f32 :=
  extractStridedSlice S80x16x128 off (shapeCast S255x16x128 X shapeCasts_S1x255x16x128_S255x16x128 : FVec F S255x16x128 .f32) h

/-- The first anchor's planes of a point's blocks. -/
def planes0 (X : Vec F S1x255x16x128 .f32) (T0 T1 T2 T3 T4 T5 : Vec F S1x3x16x128 .f32) : Planes F where
  px := chan X ![0, 0, 0] slices_S255x16x128_o0_0_0_S1x16x128
  py := chan X ![1, 0, 0] slices_S255x16x128_o1_0_0_S1x16x128
  pw := chan X ![2, 0, 0] slices_S255x16x128_o2_0_0_S1x16x128
  ph := chan X ![3, 0, 0] slices_S255x16x128_o3_0_0_S1x16x128
  obj := chan X ![12, 0, 0] slices_S255x16x128_o12_0_0_S1x16x128
  cls := chans X ![15, 0, 0] slices_S255x16x128_o15_0_0_S80x16x128
  t0 := cut T0 ![0, 0, 0, 0] inb_S1x3x16x128_S1x1x16x128_0_0_0_0
  t1 := cut T1 ![0, 0, 0, 0] inb_S1x3x16x128_S1x1x16x128_0_0_0_0
  t2 := cut T2 ![0, 0, 0, 0] inb_S1x3x16x128_S1x1x16x128_0_0_0_0
  t3 := cut T3 ![0, 0, 0, 0] inb_S1x3x16x128_S1x1x16x128_0_0_0_0
  t4 := cut T4 ![0, 0, 0, 0] inb_S1x3x16x128_S1x1x16x128_0_0_0_0
  t5 := cut T5 ![0, 0, 0, 0] inb_S1x3x16x128_S1x1x16x128_0_0_0_0
  iw := Named.named κ "inv_w0" 0x3D8D3DCB#32
  ih := Named.named κ "inv_h0" 0x3DB60B61#32

/-- The second anchor's planes. -/
def planes1 (X : Vec F S1x255x16x128 .f32) (T0 T1 T2 T3 T4 T5 : Vec F S1x3x16x128 .f32) : Planes F where
  px := chan X ![4, 0, 0] slices_S255x16x128_o4_0_0_S1x16x128
  py := chan X ![5, 0, 0] slices_S255x16x128_o5_0_0_S1x16x128
  pw := chan X ![6, 0, 0] slices_S255x16x128_o6_0_0_S1x16x128
  ph := chan X ![7, 0, 0] slices_S255x16x128_o7_0_0_S1x16x128
  obj := chan X ![13, 0, 0] slices_S255x16x128_o13_0_0_S1x16x128
  cls := chans X ![95, 0, 0] slices_S255x16x128_o95_0_0_S80x16x128
  t0 := cut T0 ![0, 1, 0, 0] inb_S1x3x16x128_S1x1x16x128_0_1_0_0
  t1 := cut T1 ![0, 1, 0, 0] inb_S1x3x16x128_S1x1x16x128_0_1_0_0
  t2 := cut T2 ![0, 1, 0, 0] inb_S1x3x16x128_S1x1x16x128_0_1_0_0
  t3 := cut T3 ![0, 1, 0, 0] inb_S1x3x16x128_S1x1x16x128_0_1_0_0
  t4 := cut T4 ![0, 1, 0, 0] inb_S1x3x16x128_S1x1x16x128_0_1_0_0
  t5 := cut T5 ![0, 1, 0, 0] inb_S1x3x16x128_S1x1x16x128_0_1_0_0
  iw := Named.named κ "inv_w1" 0x3D520D21#32
  ih := Named.named κ "inv_h1" 0x3D257EB5#32

/-- The third anchor's planes. -/
def planes2 (X : Vec F S1x255x16x128 .f32) (T0 T1 T2 T3 T4 T5 : Vec F S1x3x16x128 .f32) : Planes F where
  px := chan X ![8, 0, 0] slices_S255x16x128_o8_0_0_S1x16x128
  py := chan X ![9, 0, 0] slices_S255x16x128_o9_0_0_S1x16x128
  pw := chan X ![10, 0, 0] slices_S255x16x128_o10_0_0_S1x16x128
  ph := chan X ![11, 0, 0] slices_S255x16x128_o11_0_0_S1x16x128
  obj := chan X ![14, 0, 0] slices_S255x16x128_o14_0_0_S1x16x128
  cls := chans X ![175, 0, 0] slices_S255x16x128_o175_0_0_S80x16x128
  t0 := cut T0 ![0, 2, 0, 0] inb_S1x3x16x128_S1x1x16x128_0_2_0_0
  t1 := cut T1 ![0, 2, 0, 0] inb_S1x3x16x128_S1x1x16x128_0_2_0_0
  t2 := cut T2 ![0, 2, 0, 0] inb_S1x3x16x128_S1x1x16x128_0_2_0_0
  t3 := cut T3 ![0, 2, 0, 0] inb_S1x3x16x128_S1x1x16x128_0_2_0_0
  t4 := cut T4 ![0, 2, 0, 0] inb_S1x3x16x128_S1x1x16x128_0_2_0_0
  t5 := cut T5 ![0, 2, 0, 0] inb_S1x3x16x128_S1x1x16x128_0_2_0_0
  iw := Named.named κ "inv_w2" 0x3CAFB322#32
  ih := Named.named κ "inv_h2" 0x3CC907DA#32

/-- The six numbers one grid point adds, from its blocks. -/
def point (i : grid0.Coords) (X : Vec F S1x255x16x128 .f32) (T0 T1 T2 T3 T4 T5 : Vec F S1x3x16x128 .f32) : S6.Idx → F .f32 :=
  words i (planes0 X T0 T1 T2 T3 T4 T5) (planes1 X T0 T1 T2 T3 T4 T5) (planes2 X T0 T1 T2 T3 T4 T5)

end Cert.KernelIdeal.Block

end
-- ==== Proof.Carry.lean ====
/-
  What the six accumulator words hold from grid point to grid point, and what the last point stores: the stores of each
  of the kernel's three cases, read as values of `Block.point`.
-/
module

public import proofs.«01_k».proof.Proof.Gen.KernelIdeal.Frame
public import proofs.«01_k».proof.Proof.Block

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable {F : FTy → Type} [FloatOps F] [Named F]
variable (m : (ℓ : Loc nD τ sig) → Buf (Elt F) ℓ)

/-- A word's index, from its number. -/
theorem word_idx (j : S6.Idx) (k : Fin 6) (h : (j 0 : ℕ) = k) : j = ix1 k :=
  funext fun a => by fin_cases a; exact Fin.ext h

/-- Six one-word stores, last first, over anything: the accumulator holds the six stored words. -/
theorem canon_six (a0 a1 a2 a3 a4 a5 : Elt F .f32) (L : List (View.Piece (Elt F) S6 .f32)) (j : S6.Idx) :
    View.canon (Val := Elt F) (s := S6) (e := .f32)
      (⟨Rect.unit ![5] ![1] inb_S6_S1_5, fun _ => a5⟩ :: ⟨Rect.unit ![4] ![1] inb_S6_S1_4, fun _ => a4⟩ ::
        ⟨Rect.unit ![3] ![1] inb_S6_S1_3, fun _ => a3⟩ :: ⟨Rect.unit ![2] ![1] inb_S6_S1_2, fun _ => a2⟩ ::
        ⟨Rect.unit ![1] ![1] inb_S6_S1_1, fun _ => a1⟩ :: ⟨Rect.unit ![0] ![1] inb_S6_S1_0, fun _ => a0⟩ :: L) j
      = ![a0, a1, a2, a3, a4, a5] (j 0) := by
  idx_vars j
  have emb (k : Fin 6) (h : ∀ a, (![(k : ℕ)] : Fin 1 → ℕ) a + (![1] : Fin 1 → ℕ) a ≤ S6.size a) (w : Elt F .f32) (L' : List (View.Piece (Elt F) S6 .f32)) :
      View.canon (Val := Elt F) (s := S6) (e := .f32) (⟨Rect.unit ![(k : ℕ)] ![1] h, fun _ => w⟩ :: L') (ix1 k) = w := by
    have : (Rect.unit (s := S6) ![(k : ℕ)] ![1] h).emb (fun a => ⟨0, by fin_cases a; exact Nat.one_pos⟩) = ix1 k := by
      funext a; fin_cases a; apply Fin.ext; simp [Rect.emb]; rfl
    rw [← this]
    exact View.canon_cons_emb (Val := Elt F) _ _ _ _
  have off (k i : Fin 6) (hne : i ≠ k) (h : ∀ a, (![(k : ℕ)] : Fin 1 → ℕ) a + (![1] : Fin 1 → ℕ) a ≤ S6.size a) (w : Elt F .f32) (L' : List (View.Piece (Elt F) S6 .f32)) :
      View.canon (Val := Elt F) (s := S6) (e := .f32) (⟨Rect.unit ![(k : ℕ)] ![1] h, fun _ => w⟩ :: L') (ix1 i) = View.canon L' (ix1 i) := by
    refine View.canon_cons_of_not_mem (Val := Elt F) _ _ ?_
    rw [Rect.mem_set_unit]
    intro hm
    have := hm 0
    simp at this
    exact hne (Fin.ext (by omega))
  fin_cases j0
  · exact (off 5 0 (by decide) _ _ _).trans <| (off 4 0 (by decide) _ _ _).trans <| (off 3 0 (by decide) _ _ _).trans <|
      (off 2 0 (by decide) _ _ _).trans <| (off 1 0 (by decide) _ _ _).trans (emb 0 _ _ _)
  · exact (off 5 1 (by decide) _ _ _).trans <| (off 4 1 (by decide) _ _ _).trans <| (off 3 1 (by decide) _ _ _).trans <|
      (off 2 1 (by decide) _ _ _).trans (emb 1 _ _ _)
  · exact (off 5 2 (by decide) _ _ _).trans <| (off 4 2 (by decide) _ _ _).trans <| (off 3 2 (by decide) _ _ _).trans (emb 2 _ _ _)
  · exact (off 5 3 (by decide) _ _ _).trans <| (off 4 3 (by decide) _ _ _).trans (emb 3 _ _ _)
  · exact (off 5 4 (by decide) _ _ _).trans (emb 4 _ _ _)
  · exact emb 5 _ _ _

/-- One word loaded from the accumulator holding `xs`. -/
theorem word_held (xs : Vec F S6 .f32) (o : Fin 1 → ℕ) (h : ∀ a, o a + (![1] : Fin 1 → ℕ) a ≤ S6.size a)
    (y : (Rect.unit (s := S6) o ![1] h).shape.Idx) (j : S6.Idx) (hj : (j 0 : ℕ) = o 0) :
    View.ld (Val := Elt F) (S := S6) (e' := .f32) (View.read (Elt F) (View.whole cc0_scratch0) ((Memref.isWhole_whole cc0_scratch0).unread xs))
      (Rect.unit (s := S6) o ![1] h) y = xs j := by
  refine (congrFun ((Memref.isWhole_whole cc0_scratch0).read_unread xs) _).trans (congrArg xs ?_)
  have hy : (y 0 : ℕ) < 1 := (y 0).isLt
  funext a
  fin_cases a
  apply Fin.ext
  show o 0 + 1 * (y 0 : ℕ) = (j 0 : ℕ)
  omega

/-- The six sums over the blocks of point `t`. -/
abbrev pointAt (c : Dev nD) (t : Fin cfg0.N) : S6.Idx → F .f32 :=
  Block.point (grid0.coords t) (iblk m c 0 t) (iblk m c 1 t) (iblk m c 2 t) (iblk m c 3 t) (iblk m c 4 t) (iblk m c 5 t) (iblk m c 6 t)

/-- The first point clears the words and adds its sums. -/
theorem stepA (c : Dev nD) (t : Fin cfg0.N) (h0 : t.val % 16 = 0) (h1 : ¬t.val % 16 = 15) (j : S6.Idx) :
    (outsAt0 m c t.val t.isLt).2 j = Scalar.addf (Scalar.ofBits .f32 0x00000000#32) (pointAt m c t j) := by
  rw [outsAt0_A m c t h0 h1]
  frame_out
  refine (canon_six _ _ _ _ _ _ _ _).trans ?_
  unfold pointAt
  generalize (iblk m c 0 t : Vec F S1x255x16x128 .f32) = X0, (iblk m c 1 t : Vec F S1x3x16x128 .f32) = X1,
    (iblk m c 2 t : Vec F S1x3x16x128 .f32) = X2, (iblk m c 3 t : Vec F S1x3x16x128 .f32) = X3,
    (iblk m c 4 t : Vec F S1x3x16x128 .f32) = X4, (iblk m c 5 t : Vec F S1x3x16x128 .f32) = X5,
    (iblk m c 6 t : Vec F S1x3x16x128 .f32) = X6
  generalize grid0.coords t = i
  clear * -
  idx_vars j
  fin_cases j0 <;> exact congrArg₂ Scalar.addf rfl rfl

/-- A middle point adds its sums to what the point before left. -/
theorem stepB (c : Dev nD) (t : Fin cfg0.N) (h0 : ¬t.val % 16 = 0) (h1 : ¬t.val % 16 = 15) (j : S6.Idx) :
    (outsAt0 m c t.val t.isLt).2 j = Scalar.addf ((outsAt0 m c (t.val - 1) (Nat.lt_of_le_of_lt (Nat.sub_le _ _) t.isLt)).2 j) (pointAt m c t j) := by
  rw [outsAt0_B m c t h0 h1]
  frame_out
  refine (canon_six _ _ _ _ _ _ _ _).trans ?_
  unfold pointAt
  generalize (iblk m c 0 t : Vec F S1x255x16x128 .f32) = X0, (iblk m c 1 t : Vec F S1x3x16x128 .f32) = X1,
    (iblk m c 2 t : Vec F S1x3x16x128 .f32) = X2, (iblk m c 3 t : Vec F S1x3x16x128 .f32) = X3,
    (iblk m c 4 t : Vec F S1x3x16x128 .f32) = X4, (iblk m c 5 t : Vec F S1x3x16x128 .f32) = X5,
    (iblk m c 6 t : Vec F S1x3x16x128 .f32) = X6
  generalize (outsAt0 m c (t.val - 1) (Nat.lt_of_le_of_lt (Nat.sub_le _ _) t.isLt)).2 = xs
  generalize grid0.coords t = i
  clear * -
  idx_vars j
  fin_cases j0 <;> exact congrArg₂ Scalar.addf (word_held xs _ _ _ _ rfl) rfl

/-- So does the last point. -/
theorem stepC (c : Dev nD) (t : Fin cfg0.N) (h0 : ¬t.val % 16 = 0) (h1 : t.val % 16 = 15) (j : S6.Idx) :
    (outsAt0 m c t.val t.isLt).2 j = Scalar.addf ((outsAt0 m c (t.val - 1) (Nat.lt_of_le_of_lt (Nat.sub_le _ _) t.isLt)).2 j) (pointAt m c t j) := by
  rw [outsAt0_C m c t h0 h1]
  frame_out
  refine (canon_six _ _ _ _ _ _ _ _).trans ?_
  unfold pointAt
  generalize (iblk m c 0 t : Vec F S1x255x16x128 .f32) = X0, (iblk m c 1 t : Vec F S1x3x16x128 .f32) = X1,
    (iblk m c 2 t : Vec F S1x3x16x128 .f32) = X2, (iblk m c 3 t : Vec F S1x3x16x128 .f32) = X3,
    (iblk m c 4 t : Vec F S1x3x16x128 .f32) = X4, (iblk m c 5 t : Vec F S1x3x16x128 .f32) = X5,
    (iblk m c 6 t : Vec F S1x3x16x128 .f32) = X6
  generalize (outsAt0 m c (t.val - 1) (Nat.lt_of_le_of_lt (Nat.sub_le _ _) t.isLt)).2 = xs
  generalize grid0.coords t = i
  clear * -
  idx_vars j
  fin_cases j0 <;> exact congrArg₂ Scalar.addf (word_held xs _ _ _ _ rfl) rfl

/-- The loss from the six words. -/
abbrev final6 (w : S6.Idx → F .f32) : F .f32 :=
  k0_pay6 (w (ix1 0)) (w (ix1 1)) (w (ix1 2)) (w (ix1 3)) (w (ix1 4)) (w (ix1 5))

/-- The last point then stores the loss computed from the words it has just stored. -/
theorem outC (c : Dev nD) (t : Fin cfg0.N) (h0 : ¬t.val % 16 = 0) (h1 : t.val % 16 = 15) (j : S1x1.Idx) :
    (outsAt0 m c t.val t.isLt).1 j = final6 (outsAt0 m c t.val t.isLt).2 := by
  unfold final6
  simp only [stepC m c t h0 h1]
  rw [outsAt0_C m c t h0 h1]
  frame_out
  unfold pointAt
  generalize (iblk m c 0 t : Vec F S1x255x16x128 .f32) = X0, (iblk m c 1 t : Vec F S1x3x16x128 .f32) = X1,
    (iblk m c 2 t : Vec F S1x3x16x128 .f32) = X2, (iblk m c 3 t : Vec F S1x3x16x128 .f32) = X3,
    (iblk m c 4 t : Vec F S1x3x16x128 .f32) = X4, (iblk m c 5 t : Vec F S1x3x16x128 .f32) = X5,
    (iblk m c 6 t : Vec F S1x3x16x128 .f32) = X6
  generalize (outsAt0 m c (t.val - 1) (Nat.lt_of_le_of_lt (Nat.sub_le _ _) t.isLt)).2 = xs
  generalize grid0.coords t = i
  clear * -
  have six : ∀ a a' b b' d d' e e' f f' g g' : Elt F .f32, a = a' → b = b' → d = d' → e = e' → f = f' → g = g' →
      k0_pay6 a b d e f g = k0_pay6 a' b' d' e' f' g' := by
    rintro _ _ _ _ _ _ _ _ _ _ _ _ rfl rfl rfl rfl rfl rfl; rfl
  apply six <;> exact congrArg₂ Scalar.addf (word_held xs _ _ _ _ rfl) rfl

end Cert.KernelIdeal.Value

end
-- ==== Proof.Cell.lean ====
/-
  The loss, cell by cell. A cell is one anchor at one place of the grid of one image; `Cell` holds what the loss reads
  there, and the functions below say what the cell contributes to the six sums the loss is made of, over the extended
  reals. Both programs are read down to these functions.
-/
module

public import Idealize.ShloMosaic.Lib.Pointwise
public import Idealize.ShloMosaic.Lib.Pipeline.ValueKit

@[expose] public section

noncomputable section

open Idealize.ShloMosaic

namespace Yolo

/-- A literal of the programs as the number it denotes. -/
abbrev lit (b : BitVec 32) : EReal := Ideal.ofBits .f32 b

/-- What the loss reads of one anchor at one grid place: the predicted box, objectness and class scores, the six target
    numbers, the place's offsets and the reciprocals of the anchor's extents in grid units. -/
structure Cell where
  px : EReal
  py : EReal
  pw : EReal
  ph : EReal
  obj : EReal
  cls : Fin 80 → EReal
  t0 : EReal
  t1 : EReal
  t2 : EReal
  t3 : EReal
  t4 : EReal
  t5 : EReal
  xo : EReal
  yo : EReal
  iw : EReal
  ih : EReal

/-- A target coordinate in units of the anchor. -/
def coord (v o t : EReal) : EReal := (t * lit 0x42800000#32 - o) * v
/-- Lower edge of a side with centre `c` and extent `e`. -/
def lo (c e : EReal) : EReal := c - e * lit 0x3F000000#32
/-- Upper edge of a side. -/
def hi (c e : EReal) : EReal := c + e * lit 0x3F000000#32
/-- Overlap of two intervals. -/
def lap (c e c' e' : EReal) : EReal := max 0 (min (hi c e) (hi c' e') - max (lo c e) (lo c' e'))
/-- Area of a box. -/
def area (x y w h : EReal) : EReal := max 0 (hi x w - lo x w) * max 0 (hi y h - lo y h)
/-- Intersection over union. -/
def iou (x y w h x' y' w' h' : EReal) : EReal :=
  Ideal.div (lap x w x' w' * lap y h y' h')
    (area x y w h + area x' y' w' h' - lap x w x' w' * lap y h y' h' + lit 0x3089705F#32)
/-- `log (1 + exp (−|x|))`. -/
def soft (x : EReal) : EReal := Ideal.log (1 + Ideal.exp (-(max x (-x))))
/-- Cross entropy of a score `x` against a label `z`. -/
def bce (x z : EReal) : EReal := max x 0 - x * z + soft x

namespace Cell
variable (c : Cell)

/-- Target box, x. -/
def tx : EReal := coord c.iw c.xo c.t0
/-- Target box, y. -/
def ty : EReal := coord c.ih c.yo c.t1
/-- Target box, width. -/
def tw : EReal := coord c.iw c.xo c.t2
/-- Target box, height. -/
def th : EReal := coord c.ih c.yo c.t3
/-- The cell holds a target. -/
def held : Prop := 0 < c.t4
/-- The predicted box overlaps a held target by more than half. -/
def hit : Prop := lit 0x3F000000#32 < iou c.px c.py c.pw c.ph c.tx c.ty c.tw c.th ∧ c.held
/-- Mean squared error of the box. -/
def box : EReal :=
  ((c.px - c.tx) * (c.px - c.tx) + (c.py - c.ty) * (c.py - c.ty) + (c.pw - c.tw) * (c.pw - c.tw) + (c.ph - c.th) * (c.ph - c.th))
    * lit 0x3E800000#32
/-- The label of class `k`: one at the target's class, zero elsewhere. -/
def label (k : Fin 80) : EReal :=
  open Classical in if BitVec.ofNat 32 k.val = FloatOps.fptosi (F := Ideal) (φ := .f32) 32 c.t5 then 1 else 0
/-- Mean cross entropy over the classes. -/
def ent : EReal := (∑ k, bce (c.cls k) (c.label k)) * ((1 / 80 : ℝ) : EReal)

open Classical in
/-- What the cell adds into the six sums: objectness entropy at hits, objectness entropy, hits, box error at hits, class
    entropy at hits, held targets. -/
def word : Fin 6 → EReal :=
  ![if c.hit then bce c.obj c.t4 else 0, bce c.obj c.t4, if c.hit then 1 else 0, if c.hit then c.box else 0,
    if c.hit then c.ent else 0, if c.held then 1 else 0]

end Cell

/-- The cell of anchor `a` at row `h` and column `w` of image `b`. -/
def cellAt (X : Fin 8 → Fin 255 → Fin 64 → Fin 64 → EReal) (T : Fin 8 → Fin 3 → Fin 64 → Fin 64 → Fin 6 → EReal)
    (b : Fin 8) (a : Fin 3) (h w : Fin 64) : Cell where
  px := X b ⟨4 * a.val, by omega⟩ h w
  py := X b ⟨4 * a.val + 1, by omega⟩ h w
  pw := X b ⟨4 * a.val + 2, by omega⟩ h w
  ph := X b ⟨4 * a.val + 3, by omega⟩ h w
  obj := X b ⟨12 + a.val, by omega⟩ h w
  cls k := X b ⟨15 + 80 * a.val + k.val, by omega⟩ h w
  t0 := T b a h w 0
  t1 := T b a h w 1
  t2 := T b a h w 2
  t3 := T b a h w 3
  t4 := T b a h w 4
  t5 := T b a h w 5
  xo := ((h.val : ℝ) : EReal)
  yo := ((w.val : ℝ) : EReal)
  iw := ((![2 / 29, 2 / 39, 8 / 373] a : ℝ) : EReal)
  ih := ((![4 / 45, 4 / 99, 4 / 163] a : ℝ) : EReal)

/-- The six sums over every cell. -/
def sums (X : Fin 8 → Fin 255 → Fin 64 → Fin 64 → EReal) (T : Fin 8 → Fin 3 → Fin 64 → Fin 64 → Fin 6 → EReal) (n : Fin 6) : EReal :=
  ∑ b, ∑ a, ∑ h, ∑ w, (cellAt X T b a h w).word n

/-- The loss from the six sums. -/
def loss (s : Fin 6 → EReal) : EReal :=
  Ideal.div (lit 0x47C00000#32) (s 2 + lit 0x358637BD#32) * Ideal.div (s 0) (s 2 + lit 0x358637BD#32)
    + Ideal.div (lit 0x47C00000#32) (lit 0x47C00000#32 - s 2 + lit 0x358637BD#32)
        * Ideal.div (s 1 - s 0) (lit 0x47C00000#32 - s 2 + lit 0x358637BD#32)
    + Ideal.div (s 3) (s 2 + lit 0x358637BD#32)
    + Ideal.div (lit 0x47C00000#32) (s 5 + lit 0x358637BD#32) * Ideal.div (s 4) (s 2 + lit 0x358637BD#32)

/-- Row of the cell that row `r`, lane `l` of grid point `t` reads. -/
def rowOf (t : Fin 16) (r : Fin 16) (l : Fin 128) : Fin 64 := ⟨(16 * (t.val % 2) + r.val) * 2 + l.val / 64, by omega⟩
/-- Column of that cell. -/
def colOf (l : Fin 128) : Fin 64 := ⟨l.val % 64, by omega⟩
/-- Image of grid point `t`. -/
def imgOf (t : Fin 16) : Fin 8 := ⟨t.val / 2, by omega⟩

/-- The sixteen grid points' tiles are the cells of all images, each once. -/
def tiling : (Fin 16 × Fin 16 × Fin 128) ≃ (Fin 8 × Fin 64 × Fin 64) where
  toFun x := (imgOf x.1, rowOf x.1 x.2.1 x.2.2, colOf x.2.2)
  invFun y := (⟨y.1.val * 2 + y.2.1.val / 32, by omega⟩, ⟨y.2.1.val % 32 / 2, by omega⟩, ⟨y.2.1.val % 2 * 64 + y.2.2.val, by omega⟩)
  left_inv x := by
    obtain ⟨t, r, l⟩ := x
    simp only [imgOf, rowOf, colOf, Prod.mk.injEq, Fin.ext_iff]
    omega
  right_inv y := by
    obtain ⟨b, h, w⟩ := y
    simp only [imgOf, rowOf, colOf, Prod.mk.injEq, Fin.ext_iff]
    omega

/-- A sum over the grid points, each adding its three anchors' tiles, is the sum over all cells. -/
theorem sum_points (g : Fin 8 → Fin 3 → Fin 64 → Fin 64 → EReal) :
    (∑ t : Fin 16, (∑ r, ∑ l, g (imgOf t) 0 (rowOf t r l) (colOf l) + ∑ r, ∑ l, g (imgOf t) 1 (rowOf t r l) (colOf l)
        + ∑ r, ∑ l, g (imgOf t) 2 (rowOf t r l) (colOf l)))
      = ∑ b, ∑ a, ∑ h, ∑ w, g b a h w := by
  have one : ∀ a : Fin 3, (∑ t : Fin 16, ∑ r, ∑ l, g (imgOf t) a (rowOf t r l) (colOf l)) = ∑ b, ∑ h, ∑ w, g b a h w := by
    intro a
    have := Fintype.sum_equiv tiling (fun x => g (imgOf x.1) a (rowOf x.1 x.2.1 x.2.2) (colOf x.2.2)) (fun y => g y.1 a y.2.1 y.2.2)
      fun _ => rfl
    simpa only [Fintype.sum_prod_type] using this
  rw [Finset.sum_add_distrib, Finset.sum_add_distrib, one, one, one, ← Finset.sum_add_distrib, ← Finset.sum_add_distrib]
  exact Finset.sum_congr rfl fun b _ => (Fin.sum_univ_three fun a => ∑ h, ∑ w, g b a h w).symm

end Yolo

end
-- ==== Proof.Tile.lean ====
/-
  One grid point's six numbers over the extended reals: each is the sum, over the three anchors and the tile's 16 × 128
  places, of what the cell at that place contributes.
-/
module

public import proofs.«01_k».proof.Proof.Block
public import proofs.«01_k».proof.Proof.Cell
public import Idealize.ShloMosaic.PureOps.IdealRules

@[expose] public section

set_option maxRecDepth 16384

noncomputable section

open Idealize.ShloMosaic Idealize.ShloMosaic.TcCoe Idealize.SL.Sem

namespace Cert.KernelIdeal.Block

open Cert.KernelIdeal Cert.KernelIdeal.Gen

/-- The cell at row `r`, lane `l` of an anchor's planes. -/
def Planes.cell (i : grid0.Coords) (p : Planes Ideal) (r : Fin 16) (l : Fin 128) : Yolo.Cell where
  px := p.px (ix2 r l)
  py := p.py (ix2 r l)
  pw := p.pw (ix2 r l)
  ph := p.ph (ix2 r l)
  obj := p.obj (ix2 r l)
  cls k := p.cls (ix3 k r l)
  t0 := p.t0 (ix2 r l)
  t1 := p.t1 (ix2 r l)
  t2 := p.t2 (ix2 r l)
  t3 := p.t3 (ix2 r l)
  t4 := p.t4 (ix2 r l)
  t5 := p.t5 (ix2 r l)
  xo := xo (F := Ideal) i (ix2 r l)
  yo := yo (F := Ideal) i (ix2 r l)
  iw := p.iw
  ih := p.ih

/-- The bit of a proposition. -/
theorem bit_true (P : Prop) [Decidable P] : BitVec.ofBool (decide P) = 1#1 ↔ P := by
  by_cases h : P <;> simp [h]

/-- A truth bit as a number. -/
theorem bit_number (b : BitVec 1) (P : Prop) [Decidable P] (h : b = 1#1 ↔ P) :
    (FloatOps.sitofp .f32 (BitVec.setWidth 32 b) : Ideal .f32) = if P then 1 else 0 := by
  show (((BitVec.setWidth 32 b).toInt : ℝ) : EReal) = _
  by_cases hP : P
  · rw [h.mpr hP, if_pos hP]; simp
  · have : b = 0#1 := by
      have : ∀ b : BitVec 1, b ≠ 1#1 → b = 0#1 := by decide
      exact this b fun e => hP (h.mp e)
    rw [this, if_neg hP]; simp

/-- A number times a truth value is the number where it holds and zero elsewhere. -/
theorem mul_bit (x : EReal) (P : Prop) [Decidable P] : x * (if P then 1 else 0) = if P then x else 0 := by
  split <;> simp

variable (i : grid0.Coords) (p : Planes Ideal) (r : Fin 16) (l : Fin 128)

theorem tx_at : p.tx i (ix2 r l) = (p.cell i r l).tx := by pointwise [Planes.tx, coord]; rfl
theorem ty_at : p.ty i (ix2 r l) = (p.cell i r l).ty := by pointwise [Planes.ty, coord]; rfl
theorem tw_at : p.tw i (ix2 r l) = (p.cell i r l).tw := by pointwise [Planes.tw, coord]; rfl
theorem th_at : p.th i (ix2 r l) = (p.cell i r l).th := by pointwise [Planes.th, coord]; rfl

theorem held_at : p.held (ix2 r l) = 1#1 ↔ (p.cell i r l).held := by
  pointwise [Planes.held]
  exact bit_true _

theorem iou_at (x y w h x' y' w' h' : FVec Ideal S16x128 .f32) (j : S16x128.Idx) :
    iou x y w h x' y' w' h' j = Yolo.iou (x j) (y j) (w j) (h j) (x' j) (y' j) (w' j) (h' j) := by
  pointwise [iou, lap, area, pos, lo, hi]
  rfl

theorem hit_at : p.hit i (ix2 r l) = 1#1 ↔ (p.cell i r l).hit := by
  rw [Yolo.Cell.hit, ← held_at i p r l]
  pointwise [Planes.hit]
  rw [iou_at, tx_at, ty_at, tw_at, th_at, IntOp.andi]
  show _ &&& p.held (ix2 r l) = 1#1 ↔ Yolo.lit _ < Yolo.iou (p.px (ix2 r l)) (p.py (ix2 r l)) (p.pw (ix2 r l)) (p.ph (ix2 r l)) _ _ _ _ ∧ _
  generalize p.held (ix2 r l) = b
  have key : ∀ (q : Bool) (b : BitVec 1), BitVec.ofBool q &&& b = 1#1 ↔ q = true ∧ b = 1#1 := by decide
  rw [key, decide_eq_true_iff]

theorem bce_at : p.bce (ix2 r l) = Yolo.bce (p.cell i r l).obj (p.cell i r l).t4 := by
  pointwise [Planes.bce, soft]
  rw [zero_sub]; rfl

theorem box_at : p.box i (ix2 r l) = (p.cell i r l).box := by
  pointwise [Planes.box, sq]
  rw [tx_at, ty_at, tw_at, th_at]; rfl

/-- A class's entropy, the label subtracted first or last. -/
theorem class_term (x s : EReal) (P : Prop) [Decidable P] :
    max x 0 + s - (if P then x else 0) = max x 0 - x * (if P then 1 else 0) + s := by
  rw [mul_bit, sub_eq_add_neg, sub_eq_add_neg, add_right_comm]

/-- A select on an integer comparison. -/
theorem select_eq (a b : BitVec 32) (x : EReal) [Decidable (a = b)] :
    Scalar.select (IntOp.cmpi .eq a b) x 0 = if a = b then x else 0 := by
  by_cases h : a = b
  · simp [Scalar.select, IntOp.cmpi, h]
  · have : (a == b) = false := beq_false_of_ne h
    simp [Scalar.select, IntOp.cmpi, this, h]

theorem ent_at : p.ent (ix2 r l) = (p.cell i r l).ent := by
  pointwise [Planes.ent, soft]
  rw [IdealRules.named_const.ideal_named_scalar _ _ _ _ rfl, Yolo.Cell.ent]
  congr 1
  refine Finset.sum_congr rfl fun k _ => ?_
  rw [zero_sub, Yolo.bce, Yolo.Cell.label, ← class_term]
  refine congrArg (fun z => max (p.cls (ix3 k r l)) 0 + Yolo.soft (p.cls (ix3 k r l)) - z) ?_
  exact select_eq _ _ _

/-- The sum of a plane is the sum of its entries. -/
theorem total_at (x : FVec Ideal S16x128 .f32) : total x = ∑ r, ∑ l, x (ix2 r l) := by
  pointwise [total]

/-- The six numbers of a point. -/
theorem words_at (p q s : Planes Ideal) (j : S6.Idx) :
    words i p q s j = ∑ r, ∑ l, (p.cell i r l).word (j 0) + ∑ r, ∑ l, (q.cell i r l).word (j 0) + ∑ r, ∑ l, (s.cell i r l).word (j 0) := by
  have one : ∀ f : Planes Ideal → FVec Ideal S16x128 .f32, ∀ n : Fin 6, (∀ p r l, f p (ix2 r l) = (p.cell i r l).word n) →
      sum3 f p q s = ∑ r, ∑ l, (p.cell i r l).word n + ∑ r, ∑ l, (q.cell i r l).word n + ∑ r, ∑ l, (s.cell i r l).word n := by
    intro f n h
    simp only [sum3, total_at, h]
    show (Ideal.ofBits .f32 0x00000000#32 + _) + _ + _ = _
    rw [Ideal.ofBits_zero_f32, zero_add]
  have nums : ∀ (b : IVec S16x128 1) (P : Fin 16 → Fin 128 → Prop) [∀ r l, Decidable (P r l)], (∀ r l, b (ix2 r l) = 1#1 ↔ P r l) → ∀ r l,
      num (F := Ideal) b (ix2 r l) = if P r l then 1 else 0 := by
    intro b P _ h r l
    pointwise [num]
    exact bit_number _ _ (h r l)
  classical
  have hits : ∀ p : Planes Ideal, ∀ r l, num (F := Ideal) (p.hit i) (ix2 r l) = if (p.cell i r l).hit then 1 else 0 :=
    fun p => nums _ _ (hit_at i p)
  have atHit : ∀ (x : FVec Ideal S16x128 .f32) (p : Planes Ideal) r l,
      mulf x (num (p.hit i)) (ix2 r l) = if (p.cell i r l).hit then x (ix2 r l) else 0 := by
    intro x p r l
    show x _ * num (F := Ideal) (p.hit i) (ix2 r l) = _
    rw [hits, mul_bit]
  have w0 := one (fun p => mulf p.bce (num (p.hit i))) 0 fun p r l => by rw [atHit, bce_at i]; rfl
  have w1 := one (fun p => p.bce) 1 fun p r l => bce_at i p r l
  have w2 := one (fun p => num (p.hit i)) 2 fun p r l => hits p r l
  have w3 := one (fun p => mulf (p.box i) (num (p.hit i))) 3 fun p r l => by rw [atHit, box_at]; rfl
  have w4 := one (fun p => mulf p.ent (num (p.hit i))) 4 fun p r l => by rw [atHit, ent_at i]; rfl
  have w5 := one (fun p => num p.held) 5 fun p r l => nums _ _ (held_at i p) r l
  unfold words
  generalize j 0 = n
  change Fin 6 at n
  fin_cases n
  exacts [w0, w1, w2, w3, w4, w5]

end Cert.KernelIdeal.Block

end
-- ==== Proof.Offsets.lean ====
/-
  The row and column numbers the kernel computes from a flat cell number with integer division and remainder, sign
  corrections included: over the tile's cells they are the plain quotient and remainder by 64.
-/
module

public import proofs.«01_k».proof.Proof.Tile

@[expose] public section

set_option maxRecDepth 16384

noncomputable section

open Idealize.ShloMosaic Idealize.ShloMosaic.TcCoe Idealize.SL.Sem

namespace Cert.KernelIdeal.Block

open Cert.KernelIdeal Cert.KernelIdeal.Gen

/-- The flat cell number the kernel builds from row, lane and half of the image. -/
theorem flat (r l q : ℕ) :
    IntOp.addi (IntOp.addi (IntOp.muli (BitVec.ofNat 32 r) 128#32) (BitVec.ofNat 32 l)) (Scalar.muli (BitVec.ofNat 32 q) 2048#32)
      = BitVec.ofNat 32 (r * 128 + l + q * 2048) := by
  simp only [IntOp.addi, IntOp.muli, Scalar.muli, BitVec.ofNat_add, BitVec.ofNat_mul]

/-- Floor division by 64 as the kernel writes it. -/
def floorDiv (n : BitVec 32) : BitVec 32 :=
  Scalar.select
    (IntOp.andi
      (IntOp.cmpi .ne
        (IntOp.subi (BitVec.setWidth 32 (IntOp.cmpi .sgt n 0#32)) (BitVec.setWidth 32 (IntOp.cmpi .slt n 0#32)))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32) (IntOp.divsi .vector n 64#32)

/-- The divisor of the remainder, guarded against zero. -/
abbrev sixtyFour : BitVec 32 := Scalar.select (Scalar.cmpi .eq 64#32 0#32) 1#32 64#32

/-- Floor remainder by 64 as the kernel writes it. -/
def floorMod (n : BitVec 32) : BitVec 32 :=
  Scalar.select
    (IntOp.andi (IntOp.xori (IntOp.cmpi .slt (IntOp.remsi .vector n sixtyFour) 0#32) (Scalar.cmpi .slt sixtyFour 0#32))
      (IntOp.cmpi .ne (IntOp.remsi .vector n sixtyFour) 0#32))
    (IntOp.addi (IntOp.remsi .vector n sixtyFour) sixtyFour) (IntOp.remsi .vector n sixtyFour)

theorem floorDiv_val : ∀ n : Fin 4096, (floorDiv (BitVec.ofNat 32 n.val)).toInt = ((n.val / 64 : ℕ) : ℤ) := by decide +kernel
theorem floorMod_val : ∀ n : Fin 4096, (floorMod (BitVec.ofNat 32 n.val)).toInt = ((n.val % 64 : ℕ) : ℤ) := by decide +kernel

variable (i : grid0.Coords) (q : ℕ) (hq : (i 1).val = q) (h2 : q < 2) (r : Fin 16) (l : Fin 128)
include hq h2

/-- The row numbers of the tile. -/
theorem xo_at : (xo (F := Ideal) i (ix2 r l) : EReal) = ((((16 * q + r.val) * 2 + l.val / 64 : ℕ) : ℝ) : EReal) := by
  pointwise [xo, k0_pay9, k0_pay8]
  rw [flat, hq]
  show (((floorDiv (BitVec.ofNat 32 (r.val * 128 + l.val + q * 2048))).toInt : ℝ) : EReal) = _
  rw [floorDiv_val ⟨r.val * 128 + l.val + q * 2048, by omega⟩, Int.cast_natCast]
  refine congrArg (fun k : ℕ => ((k : ℝ) : EReal)) ?_
  show (r.val * 128 + l.val + q * 2048) / 64 = _
  omega

/-- The column numbers of the tile. -/
theorem yo_at : (yo (F := Ideal) i (ix2 r l) : EReal) = (((l.val % 64 : ℕ) : ℝ) : EReal) := by
  pointwise [yo, k0_pay10, k0_pay8]
  rw [flat, hq]
  show (((floorMod (BitVec.ofNat 32 (r.val * 128 + l.val + q * 2048))).toInt : ℝ) : EReal) = _
  rw [floorMod_val ⟨r.val * 128 + l.val + q * 2048, by omega⟩, Int.cast_natCast]
  refine congrArg (fun k : ℕ => ((k : ℝ) : EReal)) ?_
  show (r.val * 128 + l.val + q * 2048) % 64 = _
  omega

end Cert.KernelIdeal.Block

end
-- ==== Proof.Reads.lean ====
/-
  What the kernel's blocks hold of the two argument arrays, and with it the sums one grid point adds: the six words of
  the cells of its tile, anchor by anchor.
-/
module

public import proofs.«01_k».proof.Proof.Carry
public import proofs.«01_k».proof.Proof.Offsets

@[expose] public section

set_option maxRecDepth 16384

noncomputable section

open Idealize.ShloMosaic Idealize.ShloMosaic.TcCoe Idealize.SL.Sem

namespace Cert.KernelIdeal.Value

open Cert.KernelIdeal Cert.KernelIdeal.Gen Cert.KernelIdeal.Block

/-! ## Planes cut out of blocks -/

/-- A prediction plane is a channel of the block. -/
theorem chan_at (X : Vec Ideal S1x255x16x128 .f32) (o : Fin 3 → ℕ) (h : S255x16x128.Slices o S1x16x128) (k : Fin 255)
    (ho : o = ![k.val, 0, 0]) (r : Fin 16) (l : Fin 128) : chan X o h (ix2 r l) = X (ix4 0 k r l) := by
  subst ho
  pointwise

/-- Class scores are eighty consecutive channels. -/
theorem chans_at (X : Vec Ideal S1x255x16x128 .f32) (k : ℕ) (h : S255x16x128.Slices ![k, 0, 0] S80x16x128) (hk : k ≤ 175)
    (n : Fin 80) (r : Fin 16) (l : Fin 128) : chans X ![k, 0, 0] h (ix3 n r l) = X (ix4 0 ⟨k + n.val, by omega⟩ r l) := by
  pointwise

theorem drop2 (Y : Vec Ideal S1x1x16x128 .f32) (r : Fin 16) (l : Fin 128) :
    (shapeCast S16x128 Y shapeCasts_S1x1x16x128_S16x128 : FVec Ideal S16x128 .f32) (ix2 r l) = Y (ix4 0 0 r l) := by
  pointwise

/-- A target plane is an anchor's part of the block. -/
theorem cut_at (X : Vec Ideal S1x3x16x128 .f32) (o : Fin 4 → ℕ) (h : ∀ b, o b + S1x1x16x128.size b ≤ S1x3x16x128.size b)
    (a : Fin 3) (ho : o = ![0, a.val, 0, 0]) (r : Fin 16) (l : Fin 128) : cut X o h (ix2 r l) = X (ix4 0 a r l) := by
  subst ho
  refine (drop2 _ r l).trans (congrArg X ?_)
  funext b
  apply Fin.ext
  fin_cases b
  · rfl
  · show a.val + 1 * 0 = a.val
    omega
  · show 0 + 1 * r.val = r.val
    omega
  · show 0 + 1 * l.val = l.val
    omega

/-! ## The arrays the host line hands to the region -/

/-- Rows of 64 regrouped in lines of 128: predictions. -/
theorem split_at (X : FVec Ideal S8x255x64x64 .f32) (b : Fin 8) (k : Fin 255) (r : Fin 32) (l : Fin 128) :
    shapeCast S8x255x32x128 X shapeCasts_S8x255x64x64_S8x255x32x128 (ix4 b k r l)
      = X (ix4 b k ⟨r.val * 2 + l.val / 64, by omega⟩ ⟨l.val % 64, by omega⟩) := by
  pointwise

/-- The same of one of the six target planes. -/
theorem plane_at (X : FVec Ideal S8x3x64x64x6 .f32) (o : Fin 5 → ℕ) (h : S8x3x64x64x6.Slices o S8x3x64x64x1) (j : Fin 6)
    (ho : o = ![0, 0, 0, 0, j.val]) (b : Fin 8) (k : Fin 3) (r : Fin 32) (l : Fin 128) :
    shapeCast S8x3x32x128 (shapeCast S8x3x64x64 (extractStridedSlice S8x3x64x64x1 o X h) shapeCasts_S8x3x64x64x1_S8x3x64x64)
        shapeCasts_S8x3x64x64_S8x3x32x128 (ix4 b k r l)
      = X (ix5 b k ⟨r.val * 2 + l.val / 64, by omega⟩ ⟨l.val % 64, by omega⟩ j) := by
  subst ho
  pointwise

variable (m : (ℓ : Loc nD τ sig) → Buf (Elt Ideal) ℓ) (c : Dev nD)

/-- The predictions, as numbers. -/
abbrev preds (b : Fin 8) (k : Fin 255) (h w : Fin 64) : EReal := m ((c : Thread nD τ).loc main_arg0) (ix4 b k h w)
/-- The targets, as numbers. -/
abbrev targs (b : Fin 8) (a : Fin 3) (h w : Fin 64) (j : Fin 6) : EReal := m ((c : Thread nD τ).loc main_arg1) (ix5 b a h w j)

theorem entry0 : V m c main_v0 = shapeCast S8x255x32x128 (m ((c : Thread nD τ).loc main_arg0)) shapeCasts_S8x255x64x64_S8x255x32x128 := by
  entry_read
  simp only [hostOps0, List.flatten_cons, List.flatten_nil, List.append_nil]
  after_results
  rfl

theorem entry1 : V m c main_v3 = shapeCast S8x3x32x128 (shapeCast S8x3x64x64 (extractStridedSlice S8x3x64x64x1 ![0, 0, 0, 0, 0]
    (m ((c : Thread nD τ).loc main_arg1)) slices_S8x3x64x64x6_S8x3x64x64x1_0_0_0_0_0) shapeCasts_S8x3x64x64x1_S8x3x64x64)
    shapeCasts_S8x3x64x64_S8x3x32x128 := by
  entry_read
  simp only [hostOps0, List.flatten_cons, List.flatten_nil, List.append_nil]
  after_results
  rfl

theorem entry2 : V m c main_v6 = shapeCast S8x3x32x128 (shapeCast S8x3x64x64 (extractStridedSlice S8x3x64x64x1 ![0, 0, 0, 0, 1]
    (m ((c : Thread nD τ).loc main_arg1)) slices_S8x3x64x64x6_S8x3x64x64x1_0_0_0_0_1) shapeCasts_S8x3x64x64x1_S8x3x64x64)
    shapeCasts_S8x3x64x64_S8x3x32x128 := by
  entry_read
  simp only [hostOps0, List.flatten_cons, List.flatten_nil, List.append_nil]
  after_results
  rfl

theorem entry3 : V m c main_v9 = shapeCast S8x3x32x128 (shapeCast S8x3x64x64 (extractStridedSlice S8x3x64x64x1 ![0, 0, 0, 0, 2]
    (m ((c : Thread nD τ).loc main_arg1)) slices_S8x3x64x64x6_S8x3x64x64x1_0_0_0_0_2) shapeCasts_S8x3x64x64x1_S8x3x64x64)
    shapeCasts_S8x3x64x64_S8x3x32x128 := by
  entry_read
  simp only [hostOps0, List.flatten_cons, List.flatten_nil, List.append_nil]
  after_results
  rfl

theorem entry4 : V m c main_v12 = shapeCast S8x3x32x128 (shapeCast S8x3x64x64 (extractStridedSlice S8x3x64x64x1 ![0, 0, 0, 0, 3]
    (m ((c : Thread nD τ).loc main_arg1)) slices_S8x3x64x64x6_S8x3x64x64x1_0_0_0_0_3) shapeCasts_S8x3x64x64x1_S8x3x64x64)
    shapeCasts_S8x3x64x64_S8x3x32x128 := by
  entry_read
  simp only [hostOps0, List.flatten_cons, List.flatten_nil, List.append_nil]
  after_results
  rfl

theorem entry5 : V m c main_v15 = shapeCast S8x3x32x128 (shapeCast S8x3x64x64 (extractStridedSlice S8x3x64x64x1 ![0, 0, 0, 0, 4]
    (m ((c : Thread nD τ).loc main_arg1)) slices_S8x3x64x64x6_S8x3x64x64x1_0_0_0_0_4) shapeCasts_S8x3x64x64x1_S8x3x64x64)
    shapeCasts_S8x3x64x64_S8x3x32x128 := by
  entry_read
  simp only [hostOps0, List.flatten_cons, List.flatten_nil, List.append_nil]
  after_results
  rfl

theorem entry6 : V m c main_v18 = shapeCast S8x3x32x128 (shapeCast S8x3x64x64 (extractStridedSlice S8x3x64x64x1 ![0, 0, 0, 0, 5]
    (m ((c : Thread nD τ).loc main_arg1)) slices_S8x3x64x64x6_S8x3x64x64x1_0_0_0_0_5) shapeCasts_S8x3x64x64x1_S8x3x64x64)
    shapeCasts_S8x3x64x64_S8x3x32x128 := by
  entry_read
  simp only [hostOps0, List.flatten_cons, List.flatten_nil, List.append_nil]
  after_results
  rfl

/-! ## Blocks as array elements -/

/-- Point `t` stages the tile of image `t / 2`, half `t % 2`. -/
theorem idx_in : ∀ t : Fin cfg0.N, (win0_0.index t = ![t.val / 2, 0, t.val % 2, 0] ∧ win0_1.index t = ![t.val / 2, 0, t.val % 2, 0]
    ∧ win0_2.index t = ![t.val / 2, 0, t.val % 2, 0] ∧ win0_3.index t = ![t.val / 2, 0, t.val % 2, 0])
    ∧ win0_4.index t = ![t.val / 2, 0, t.val % 2, 0] ∧ win0_5.index t = ![t.val / 2, 0, t.val % 2, 0]
    ∧ win0_6.index t = ![t.val / 2, 0, t.val % 2, 0] := (by decide +kernel : ∀ t : Fin grid0.N, _)

theorem half_val : ∀ t : Fin cfg0.N, (grid0.coords t 1).val = t.val % 2 := (by decide +kernel : ∀ t : Fin grid0.N, _)

/-- A grid point as one of sixteen. -/
abbrev pt (t : Fin cfg0.N) : Fin 16 := ⟨t.val, lt_of_lt_of_eq t.isLt N_0⟩

variable (t : Fin cfg0.N) (r : Fin 16) (l : Fin 128)

theorem block0 (k : Fin 255) : iblk m c 0 t (ix4 0 k r l) = preds m c (Yolo.imgOf (pt t)) k (Yolo.rowOf (pt t) r l) (Yolo.colOf l) := by
  have e : iblk m c 0 t (ix4 0 k r l)
      = V m c main_v0 (ix4 ⟨t.val / 2, by have := lt_of_lt_of_eq t.isLt N_0; omega⟩ k ⟨16 * (t.val % 2) + r.val, by omega⟩ l) := by
    blk_ext [iblk, idx_in t]
  rw [e, entry0]
  exact split_at _ _ _ _ _

theorem block1 (a : Fin 3) : iblk m c 1 t (ix4 0 a r l) = targs m c (Yolo.imgOf (pt t)) a (Yolo.rowOf (pt t) r l) (Yolo.colOf l) 0 := by
  have e : iblk m c 1 t (ix4 0 a r l)
      = V m c main_v3 (ix4 ⟨t.val / 2, by have := lt_of_lt_of_eq t.isLt N_0; omega⟩ a ⟨16 * (t.val % 2) + r.val, by omega⟩ l) := by
    blk_ext [iblk, idx_in t]
  rw [e, entry1]
  exact plane_at _ _ _ 0 rfl _ _ _ _

theorem block2 (a : Fin 3) : iblk m c 2 t (ix4 0 a r l) = targs m c (Yolo.imgOf (pt t)) a (Yolo.rowOf (pt t) r l) (Yolo.colOf l) 1 := by
  have e : iblk m c 2 t (ix4 0 a r l)
      = V m c main_v6 (ix4 ⟨t.val / 2, by have := lt_of_lt_of_eq t.isLt N_0; omega⟩ a ⟨16 * (t.val % 2) + r.val, by omega⟩ l) := by
    blk_ext [iblk, idx_in t]
  rw [e, entry2]
  exact plane_at _ _ _ 1 rfl _ _ _ _

theorem block3 (a : Fin 3) : iblk m c 3 t (ix4 0 a r l) = targs m c (Yolo.imgOf (pt t)) a (Yolo.rowOf (pt t) r l) (Yolo.colOf l) 2 := by
  have e : iblk m c 3 t (ix4 0 a r l)
      = V m c main_v9 (ix4 ⟨t.val / 2, by have := lt_of_lt_of_eq t.isLt N_0; omega⟩ a ⟨16 * (t.val % 2) + r.val, by omega⟩ l) := by
    blk_ext [iblk, idx_in t]
  rw [e, entry3]
  exact plane_at _ _ _ 2 rfl _ _ _ _

theorem block4 (a : Fin 3) : iblk m c 4 t (ix4 0 a r l) = targs m c (Yolo.imgOf (pt t)) a (Yolo.rowOf (pt t) r l) (Yolo.colOf l) 3 := by
  have e : iblk m c 4 t (ix4 0 a r l)
      = V m c main_v12 (ix4 ⟨t.val / 2, by have := lt_of_lt_of_eq t.isLt N_0; omega⟩ a ⟨16 * (t.val % 2) + r.val, by omega⟩ l) := by
    blk_ext [iblk, idx_in t]
  rw [e, entry4]
  exact plane_at _ _ _ 3 rfl _ _ _ _

theorem block5 (a : Fin 3) : iblk m c 5 t (ix4 0 a r l) = targs m c (Yolo.imgOf (pt t)) a (Yolo.rowOf (pt t) r l) (Yolo.colOf l) 4 := by
  have e : iblk m c 5 t (ix4 0 a r l)
      = V m c main_v15 (ix4 ⟨t.val / 2, by have := lt_of_lt_of_eq t.isLt N_0; omega⟩ a ⟨16 * (t.val % 2) + r.val, by omega⟩ l) := by
    blk_ext [iblk, idx_in t]
  rw [e, entry5]
  exact plane_at _ _ _ 4 rfl _ _ _ _

theorem block6 (a : Fin 3) : iblk m c 6 t (ix4 0 a r l) = targs m c (Yolo.imgOf (pt t)) a (Yolo.rowOf (pt t) r l) (Yolo.colOf l) 5 := by
  have e : iblk m c 6 t (ix4 0 a r l)
      = V m c main_v18 (ix4 ⟨t.val / 2, by have := lt_of_lt_of_eq t.isLt N_0; omega⟩ a ⟨16 * (t.val % 2) + r.val, by omega⟩ l) := by
    blk_ext [iblk, idx_in t]
  rw [e, entry6]
  exact plane_at _ _ _ 5 rfl _ _ _ _

/-! ## The cells of a point's tile -/

section Cells

variable (A : Fin 8 → Fin 255 → Fin 64 → Fin 64 → EReal) (T : Fin 8 → Fin 3 → Fin 64 → Fin 64 → Fin 6 → EReal)
  (X : Vec Ideal S1x255x16x128 .f32) (T0 T1 T2 T3 T4 T5 : Vec Ideal S1x3x16x128 .f32) (i : grid0.Coords) (p : Fin 16)
  (hi : (i 1).val = p.val % 2)
  (hX : ∀ k, X (ix4 0 k r l) = A (Yolo.imgOf p) k (Yolo.rowOf p r l) (Yolo.colOf l))
  (hT0 : ∀ a, T0 (ix4 0 a r l) = T (Yolo.imgOf p) a (Yolo.rowOf p r l) (Yolo.colOf l) 0)
  (hT1 : ∀ a, T1 (ix4 0 a r l) = T (Yolo.imgOf p) a (Yolo.rowOf p r l) (Yolo.colOf l) 1)
  (hT2 : ∀ a, T2 (ix4 0 a r l) = T (Yolo.imgOf p) a (Yolo.rowOf p r l) (Yolo.colOf l) 2)
  (hT3 : ∀ a, T3 (ix4 0 a r l) = T (Yolo.imgOf p) a (Yolo.rowOf p r l) (Yolo.colOf l) 3)
  (hT4 : ∀ a, T4 (ix4 0 a r l) = T (Yolo.imgOf p) a (Yolo.rowOf p r l) (Yolo.colOf l) 4)
  (hT5 : ∀ a, T5 (ix4 0 a r l) = T (Yolo.imgOf p) a (Yolo.rowOf p r l) (Yolo.colOf l) 5)
include hi hX hT0 hT1 hT2 hT3 hT4 hT5

theorem cell0 : (planes0 X T0 T1 T2 T3 T4 T5).cell i r l
    = Yolo.cellAt A T (Yolo.imgOf p) 0 (Yolo.rowOf p r l) (Yolo.colOf l) := by
  have h2 : p.val % 2 < 2 := Nat.mod_lt _ (by norm_num)
  rw [Planes.cell, Yolo.cellAt, Yolo.Cell.mk.injEq]
  refine ⟨?_, ?_, ?_, ?_, ?_, funext fun k => ?_, ?_, ?_, ?_, ?_, ?_, ?_, xo_at _ _ hi h2 r l, yo_at _ _ hi h2 r l,
    IdealRules.named_const.ideal_named_scalar _ _ _ _ rfl, IdealRules.named_const.ideal_named_scalar _ _ _ _ rfl⟩
  · exact (chan_at X ![0, 0, 0] slices_S255x16x128_o0_0_0_S1x16x128 0 rfl r l).trans (hX _)
  · exact (chan_at X ![1, 0, 0] slices_S255x16x128_o1_0_0_S1x16x128 1 rfl r l).trans (hX _)
  · exact (chan_at X ![2, 0, 0] slices_S255x16x128_o2_0_0_S1x16x128 2 rfl r l).trans (hX _)
  · exact (chan_at X ![3, 0, 0] slices_S255x16x128_o3_0_0_S1x16x128 3 rfl r l).trans (hX _)
  · exact (chan_at X ![12, 0, 0] slices_S255x16x128_o12_0_0_S1x16x128 12 rfl r l).trans (hX _)
  · exact (chans_at X 15 slices_S255x16x128_o15_0_0_S80x16x128 (by norm_num) k r l).trans (hX _)
  · exact (cut_at T0 ![0, 0, 0, 0] inb_S1x3x16x128_S1x1x16x128_0_0_0_0 0 rfl r l).trans (hT0 _)
  · exact (cut_at T1 ![0, 0, 0, 0] inb_S1x3x16x128_S1x1x16x128_0_0_0_0 0 rfl r l).trans (hT1 _)
  · exact (cut_at T2 ![0, 0, 0, 0] inb_S1x3x16x128_S1x1x16x128_0_0_0_0 0 rfl r l).trans (hT2 _)
  · exact (cut_at T3 ![0, 0, 0, 0] inb_S1x3x16x128_S1x1x16x128_0_0_0_0 0 rfl r l).trans (hT3 _)
  · exact (cut_at T4 ![0, 0, 0, 0] inb_S1x3x16x128_S1x1x16x128_0_0_0_0 0 rfl r l).trans (hT4 _)
  · exact (cut_at T5 ![0, 0, 0, 0] inb_S1x3x16x128_S1x1x16x128_0_0_0_0 0 rfl r l).trans (hT5 _)

theorem cell1 : (planes1 X T0 T1 T2 T3 T4 T5).cell i r l
    = Yolo.cellAt A T (Yolo.imgOf p) 1 (Yolo.rowOf p r l) (Yolo.colOf l) := by
  have h2 : p.val % 2 < 2 := Nat.mod_lt _ (by norm_num)
  rw [Planes.cell, Yolo.cellAt, Yolo.Cell.mk.injEq]
  refine ⟨?_, ?_, ?_, ?_, ?_, funext fun k => ?_, ?_, ?_, ?_, ?_, ?_, ?_, xo_at _ _ hi h2 r l, yo_at _ _ hi h2 r l,
    IdealRules.named_const.ideal_named_scalar _ _ _ _ rfl, IdealRules.named_const.ideal_named_scalar _ _ _ _ rfl⟩
  · exact (chan_at X ![4, 0, 0] slices_S255x16x128_o4_0_0_S1x16x128 4 rfl r l).trans (hX _)
  · exact (chan_at X ![5, 0, 0] slices_S255x16x128_o5_0_0_S1x16x128 5 rfl r l).trans (hX _)
  · exact (chan_at X ![6, 0, 0] slices_S255x16x128_o6_0_0_S1x16x128 6 rfl r l).trans (hX _)
  · exact (chan_at X ![7, 0, 0] slices_S255x16x128_o7_0_0_S1x16x128 7 rfl r l).trans (hX _)
  · exact (chan_at X ![13, 0, 0] slices_S255x16x128_o13_0_0_S1x16x128 13 rfl r l).trans (hX _)
  · exact (chans_at X 95 slices_S255x16x128_o95_0_0_S80x16x128 (by norm_num) k r l).trans (hX _)
  · exact (cut_at T0 ![0, 1, 0, 0] inb_S1x3x16x128_S1x1x16x128_0_1_0_0 1 rfl r l).trans (hT0 _)
  · exact (cut_at T1 ![0, 1, 0, 0] inb_S1x3x16x128_S1x1x16x128_0_1_0_0 1 rfl r l).trans (hT1 _)
  · exact (cut_at T2 ![0, 1, 0, 0] inb_S1x3x16x128_S1x1x16x128_0_1_0_0 1 rfl r l).trans (hT2 _)
  · exact (cut_at T3 ![0, 1, 0, 0] inb_S1x3x16x128_S1x1x16x128_0_1_0_0 1 rfl r l).trans (hT3 _)
  · exact (cut_at T4 ![0, 1, 0, 0] inb_S1x3x16x128_S1x1x16x128_0_1_0_0 1 rfl r l).trans (hT4 _)
  · exact (cut_at T5 ![0, 1, 0, 0] inb_S1x3x16x128_S1x1x16x128_0_1_0_0 1 rfl r l).trans (hT5 _)

theorem cell2 : (planes2 X T0 T1 T2 T3 T4 T5).cell i r l
    = Yolo.cellAt A T (Yolo.imgOf p) 2 (Yolo.rowOf p r l) (Yolo.colOf l) := by
  have h2 : p.val % 2 < 2 := Nat.mod_lt _ (by norm_num)
  rw [Planes.cell, Yolo.cellAt, Yolo.Cell.mk.injEq]
  refine ⟨?_, ?_, ?_, ?_, ?_, funext fun k => ?_, ?_, ?_, ?_, ?_, ?_, ?_, xo_at _ _ hi h2 r l, yo_at _ _ hi h2 r l,
    IdealRules.named_const.ideal_named_scalar _ _ _ _ rfl, IdealRules.named_const.ideal_named_scalar _ _ _ _ rfl⟩
  · exact (chan_at X ![8, 0, 0] slices_S255x16x128_o8_0_0_S1x16x128 8 rfl r l).trans (hX _)
  · exact (chan_at X ![9, 0, 0] slices_S255x16x128_o9_0_0_S1x16x128 9 rfl r l).trans (hX _)
  · exact (chan_at X ![10, 0, 0] slices_S255x16x128_o10_0_0_S1x16x128 10 rfl r l).trans (hX _)
  · exact (chan_at X ![11, 0, 0] slices_S255x16x128_o11_0_0_S1x16x128 11 rfl r l).trans (hX _)
  · exact (chan_at X ![14, 0, 0] slices_S255x16x128_o14_0_0_S1x16x128 14 rfl r l).trans (hX _)
  · exact (chans_at X 175 slices_S255x16x128_o175_0_0_S80x16x128 (by norm_num) k r l).trans (hX _)
  · exact (cut_at T0 ![0, 2, 0, 0] inb_S1x3x16x128_S1x1x16x128_0_2_0_0 2 rfl r l).trans (hT0 _)
  · exact (cut_at T1 ![0, 2, 0, 0] inb_S1x3x16x128_S1x1x16x128_0_2_0_0 2 rfl r l).trans (hT1 _)
  · exact (cut_at T2 ![0, 2, 0, 0] inb_S1x3x16x128_S1x1x16x128_0_2_0_0 2 rfl r l).trans (hT2 _)
  · exact (cut_at T3 ![0, 2, 0, 0] inb_S1x3x16x128_S1x1x16x128_0_2_0_0 2 rfl r l).trans (hT3 _)
  · exact (cut_at T4 ![0, 2, 0, 0] inb_S1x3x16x128_S1x1x16x128_0_2_0_0 2 rfl r l).trans (hT4 _)
  · exact (cut_at T5 ![0, 2, 0, 0] inb_S1x3x16x128_S1x1x16x128_0_2_0_0 2 rfl r l).trans (hT5 _)

end Cells

/-- The six words of a tile, as sums over its cells. -/
theorem point_cells (A : Fin 8 → Fin 255 → Fin 64 → Fin 64 → EReal) (T : Fin 8 → Fin 3 → Fin 64 → Fin 64 → Fin 6 → EReal)
    (X : Vec Ideal S1x255x16x128 .f32) (T0 T1 T2 T3 T4 T5 : Vec Ideal S1x3x16x128 .f32) (i : grid0.Coords) (p : Fin 16)
    (hi : (i 1).val = p.val % 2)
    (hX : ∀ r l k, X (ix4 0 k r l) = A (Yolo.imgOf p) k (Yolo.rowOf p r l) (Yolo.colOf l))
    (hT0 : ∀ r l a, T0 (ix4 0 a r l) = T (Yolo.imgOf p) a (Yolo.rowOf p r l) (Yolo.colOf l) 0)
    (hT1 : ∀ r l a, T1 (ix4 0 a r l) = T (Yolo.imgOf p) a (Yolo.rowOf p r l) (Yolo.colOf l) 1)
    (hT2 : ∀ r l a, T2 (ix4 0 a r l) = T (Yolo.imgOf p) a (Yolo.rowOf p r l) (Yolo.colOf l) 2)
    (hT3 : ∀ r l a, T3 (ix4 0 a r l) = T (Yolo.imgOf p) a (Yolo.rowOf p r l) (Yolo.colOf l) 3)
    (hT4 : ∀ r l a, T4 (ix4 0 a r l) = T (Yolo.imgOf p) a (Yolo.rowOf p r l) (Yolo.colOf l) 4)
    (hT5 : ∀ r l a, T5 (ix4 0 a r l) = T (Yolo.imgOf p) a (Yolo.rowOf p r l) (Yolo.colOf l) 5) (j : S6.Idx) :
    point i X T0 T1 T2 T3 T4 T5 j
      = ∑ r, ∑ l, (Yolo.cellAt A T (Yolo.imgOf p) 0 (Yolo.rowOf p r l) (Yolo.colOf l)).word (j 0)
        + ∑ r, ∑ l, (Yolo.cellAt A T (Yolo.imgOf p) 1 (Yolo.rowOf p r l) (Yolo.colOf l)).word (j 0)
        + ∑ r, ∑ l, (Yolo.cellAt A T (Yolo.imgOf p) 2 (Yolo.rowOf p r l) (Yolo.colOf l)).word (j 0) := by
  rw [point, words_at]
  refine congrArg₂ (· + ·) (congrArg₂ (· + ·) ?_ ?_) ?_
  · exact Finset.sum_congr rfl fun r _ => Finset.sum_congr rfl fun l _ => congrArg (fun x : Yolo.Cell => x.word (j 0))
      (cell0 r l A T _ _ _ _ _ _ _ _ p hi (hX r l) (hT0 r l) (hT1 r l) (hT2 r l) (hT3 r l) (hT4 r l) (hT5 r l))
  · exact Finset.sum_congr rfl fun r _ => Finset.sum_congr rfl fun l _ => congrArg (fun x : Yolo.Cell => x.word (j 0))
      (cell1 r l A T _ _ _ _ _ _ _ _ p hi (hX r l) (hT0 r l) (hT1 r l) (hT2 r l) (hT3 r l) (hT4 r l) (hT5 r l))
  · exact Finset.sum_congr rfl fun r _ => Finset.sum_congr rfl fun l _ => congrArg (fun x : Yolo.Cell => x.word (j 0))
      (cell2 r l A T _ _ _ _ _ _ _ _ p hi (hX r l) (hT0 r l) (hT1 r l) (hT2 r l) (hT3 r l) (hT4 r l) (hT5 r l))

/-- What a point adds, as sums over its cells. -/
theorem point_at (j : S6.Idx) : pointAt m c t j
    = ∑ r, ∑ l, (Yolo.cellAt (preds m c) (targs m c) (Yolo.imgOf (pt t)) 0 (Yolo.rowOf (pt t) r l) (Yolo.colOf l)).word (j 0)
      + ∑ r, ∑ l, (Yolo.cellAt (preds m c) (targs m c) (Yolo.imgOf (pt t)) 1 (Yolo.rowOf (pt t) r l) (Yolo.colOf l)).word (j 0)
      + ∑ r, ∑ l, (Yolo.cellAt (preds m c) (targs m c) (Yolo.imgOf (pt t)) 2 (Yolo.rowOf (pt t) r l) (Yolo.colOf l)).word (j 0) :=
  point_cells (preds m c) (targs m c) _ _ _ _ _ _ _ _ (pt t) (half_val t) (block0 m c t) (block1 m c t) (block2 m c t) (block3 m c t)
    (block4 m c t) (block5 m c t) (block6 m c t) j

end Cert.KernelIdeal.Value

end
-- ==== Proof.Loss.lean ====
/-
  The kernel's result. Its six words after the last grid point are the sums over all cells, and the word it stores is the
  loss of those sums.
-/
module

public import proofs.«01_k».proof.Proof.Reads

@[expose] public section

set_option maxRecDepth 16384

noncomputable section

open Idealize.ShloMosaic Idealize.ShloMosaic.TcCoe Idealize.SL.Sem

namespace Cert.KernelIdeal.Value

open Cert.KernelIdeal Cert.KernelIdeal.Gen Cert.KernelIdeal.Block

variable (m : (ℓ : Loc nD τ sig) → Buf (Elt Ideal) ℓ) (c : Dev nD)

/-- After the last point a word is the sum of what all points added. -/
theorem words_last (t : Fin cfg0.N) (ht : t.val + 1 = cfg0.N) (j : S6.Idx) :
    (outsAt0 m c t.val t.isLt).2 j = Yolo.sums (preds m c) (targs m c) (j 0) := by
  have fold := Pipeline.eq_sum_fin_of_reset_step_apply_last (fun n h => (outsAt0 m c n h).2) 16 (fun _ => (0 : EReal))
    (fun t j => (pointAt m c t j : EReal))
    (fun t h0 j => by
      refine (stepA m c t h0 (by omega) j).trans ?_
      show Ideal.ofBits .f32 0x00000000#32 + _ = _
      rw [Ideal.ofBits_zero_f32])
    (fun t h0 j => by
      by_cases h1 : t.val % 16 = 15
      · exact stepC m c t h0 h1 j
      · exact stepB m c t h0 h1 j)
    (le_of_eq N_0) t ht j
  refine fold.trans ?_
  rw [zero_add]
  simp only [point_at]
  refine (Fintype.sum_equiv (finCongr N_0) _ (fun p : Fin 16 =>
    ∑ r, ∑ l, (Yolo.cellAt (preds m c) (targs m c) (Yolo.imgOf p) 0 (Yolo.rowOf p r l) (Yolo.colOf l)).word (j 0)
      + ∑ r, ∑ l, (Yolo.cellAt (preds m c) (targs m c) (Yolo.imgOf p) 1 (Yolo.rowOf p r l) (Yolo.colOf l)).word (j 0)
      + ∑ r, ∑ l, (Yolo.cellAt (preds m c) (targs m c) (Yolo.imgOf p) 2 (Yolo.rowOf p r l) (Yolo.colOf l)).word (j 0)) fun _ => rfl).trans ?_
  exact Yolo.sum_points fun b a h w => (Yolo.cellAt (preds m c) (targs m c) b a h w).word (j 0)

/-- The scalar the kernel computes from its six words. -/
theorem final6_at (w : S6.Idx → Ideal .f32) (s : Fin 6 → EReal) (h : ∀ j, w j = s (j 0)) : final6 w = Yolo.loss s := by
  unfold final6
  simp only [h]
  rfl

/-- The last grid point. -/
abbrev lastPoint : Fin cfg0.N := ⟨15, lt_of_lt_of_eq (by norm_num) N_0.symm⟩

/-- The result array after the run. -/
theorem array_last : (dats m 0 c).arrAt 7 cfg0.N = fun _ => Yolo.loss (Yolo.sums (preds m c) (targs m c)) := by
  refine (dats m 0 c).arrAt_eq_of_after_last 7 lastPoint (by decide +kernel) _ (fun j => ?_)
  rw [after0_7]
  refine (outC m c lastPoint (by norm_num) (by norm_num) _).trans ?_
  exact final6_at _ _ (words_last m c lastPoint N_0.symm)

/-- The scalar the program returns. -/
theorem result_last : Pipeline.afterTail₀ cfgs (dats m) 0 (V0 m) [hostOps1] c main_v20
    = fun _ => Yolo.loss (Yolo.sums (preds m c) (targs m c)) := by
  unfold Pipeline.afterTail₀
  simp only [hostOps1, List.flatten_cons, List.flatten_nil, List.append_nil]
  after_results
  have whole : Pipeline.withArrays (cfgs 0).spec c (V0 m c) (fun w => (dats m 0 c).arrAt w (cfgs 0).N) (Proc.tc.devRef main_v19)
      = fun _ => Yolo.loss (Yolo.sums (preds m c) (targs m c)) :=
    (Pipeline.withArrays_arr (cfgs 0).spec (by decide +kernel) c (V0 m c) (fun w => (dats m 0 c).arrAt w (cfgs 0).N) 7).trans
      (array_last m c)
  rw [whole]
  rfl

end Cert.KernelIdeal.Value

end
-- ==== Proof.RefCell.lean ====
/-
  The reference, place by place: what its arrays hold at anchor `a`, row `h`, column `w` of image `b`, in terms of the cell
  there. The reference divides by the anchors, by two, by four and by eighty where the cell multiplies by the reciprocals.
-/
module

public import proofs.«01_k».proof.Proof.Tile
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Cells

open Cert.ReferenceIdeal Cert.ReferenceIdeal.Read
open Cert.KernelIdeal.Block (bit_true bit_number mul_bit)

/-- Predictions. -/
abbrev Preds := (⟨S8x255x64x64, .f32⟩ : BufTy).Contents (Elt Ideal)
/-- Targets. -/
abbrev Targs := (⟨S8x3x64x64x6, .f32⟩ : BufTy).Contents (Elt Ideal)

/-- The cell the two arrays hold at a place. -/
abbrev cell (x0 : Preds) (x1 : Targs) (b : Fin 8) (a : Fin 3) (h w : Fin 64) : Yolo.Cell :=
  Yolo.cellAt (fun b k h w => x0 (ix4 b k h w)) (fun b a h w j => x1 (ix5 b a h w j)) b a h w

/-! ## Division by the literals -/

theorem div_two (x : EReal) : Ideal.div x (Ideal.ofBits .f32 0x40000000#32) = x * Yolo.lit 0x3F000000#32 := by
  have e : Ideal.ofBits .f32 0x40000000#32 = ((2 : ℝ) : EReal) := by
    simp [Ideal.ofBits, Ideal.ieee, -EReal.coe_mul]; norm_num
  have e' : Ideal.ofBits .f32 0x3F000000#32 = ((1 / 2 : ℝ) : EReal) := by
    simp [Ideal.ofBits, Ideal.ieee, -EReal.coe_mul]; norm_num
  rw [e, Yolo.lit, e', Ideal.div_coe (by norm_num)]

theorem div_four (x : EReal) : Ideal.div x (Ideal.ofBits .f32 0x40800000#32) = x * Yolo.lit 0x3E800000#32 := by
  have e : Ideal.ofBits .f32 0x40800000#32 = ((4 : ℝ) : EReal) := by
    simp [Ideal.ofBits, Ideal.ieee, -EReal.coe_mul]; norm_num
  have e' : Ideal.ofBits .f32 0x3E800000#32 = ((1 / 4 : ℝ) : EReal) := by
    simp [Ideal.ofBits, Ideal.ieee, -EReal.coe_mul]; norm_num
  rw [e, Yolo.lit, e', Ideal.div_coe (by norm_num)]

theorem div_eighty (x : EReal) : Ideal.div x (Ideal.ofBits .f32 0x42A00000#32) = x * ((1 / 80 : ℝ) : EReal) := by
  have e : Ideal.ofBits .f32 0x42A00000#32 = ((80 : ℝ) : EReal) := by
    simp [Ideal.ofBits, Ideal.ieee, -EReal.coe_mul]; norm_num
  rw [e, Ideal.div_coe (by norm_num)]

/-- Division by an anchor's width. -/
theorem div_width (x : EReal) (a : Fin 3) :
    Ideal.div x (val_main_v3 (F := Ideal) (ix1 a)) = x * ((![2 / 29, 2 / 39, 8 / 373] a : ℝ) : EReal) := by
  have e0 : Ideal.ofBits .f32 0x41680000#32 = ((29 / 2 : ℝ) : EReal) := by
    simp [Ideal.ofBits, Ideal.ieee, -EReal.coe_mul]; norm_num
  have e1 : Ideal.ofBits .f32 0x419C0000#32 = ((39 / 2 : ℝ) : EReal) := by
    simp [Ideal.ofBits, Ideal.ieee, -EReal.coe_mul]; norm_num
  have e2 : Ideal.ofBits .f32 0x423A8000#32 = ((373 / 8 : ℝ) : EReal) := by
    simp [Ideal.ofBits, Ideal.ieee, -EReal.coe_mul]; norm_num
  pointwise [val_main_v3, val_main_v0, val_main_v1, val_main_v2, val_main_cst, val_main_cst_0, val_main_cst_1]
  fin_cases a <;> simp [e0, e1, e2, Ideal.div_coe]

/-- Division by an anchor's height. -/
theorem div_height (x : EReal) (a : Fin 3) :
    Ideal.div x (val_main_v7 (F := Ideal) (ix1 a)) = x * ((![4 / 45, 4 / 99, 4 / 163] a : ℝ) : EReal) := by
  have e0 : Ideal.ofBits .f32 0x41340000#32 = ((45 / 4 : ℝ) : EReal) := by
    simp [Ideal.ofBits, Ideal.ieee, -EReal.coe_mul]; norm_num
  have e1 : Ideal.ofBits .f32 0x41C60000#32 = ((99 / 4 : ℝ) : EReal) := by
    simp [Ideal.ofBits, Ideal.ieee, -EReal.coe_mul]; norm_num
  have e2 : Ideal.ofBits .f32 0x42230000#32 = ((163 / 4 : ℝ) : EReal) := by
    simp [Ideal.ofBits, Ideal.ieee, -EReal.coe_mul]; norm_num
  pointwise [val_main_v7, val_main_v4, val_main_v5, val_main_v6, val_main_cst_2, val_main_cst_3, val_main_cst_4]
  fin_cases a <;> simp [e0, e1, e2, Ideal.div_coe]

/-! ## The places' offsets -/

/-- A place's number, as the reference makes it from a counter. -/
theorem number (h : Fin 64) : (FloatOps.sitofp .f32 (BitVec.ofNat 32 h.val) : Ideal .f32) = ((h.val : ℝ) : EReal) := by
  show (((BitVec.ofNat 32 h.val).toInt : ℝ) : EReal) = _
  rw [show (BitVec.ofNat 32 h.val).toInt = (h.val : ℤ) from by revert h; decide]
  simp

theorem row_at (h : Fin 64) : (val_main_v8 (F := Ideal) (ix1 h) : EReal) = ((h.val : ℝ) : EReal) := by
  pointwise [val_main_v8]
  exact number h

theorem col_at (w : Fin 64) : (val_main_v11 (F := Ideal) (ix1 w) : EReal) = ((w.val : ℝ) : EReal) := by
  pointwise [val_main_v11]
  exact number w

variable (x0 : Preds) (x1 : Targs) (b : Fin 8) (a : Fin 3) (h w : Fin 64)

/-! ## The boxes -/

theorem tx_at : (val_main_v35 (F := Ideal) x1 (ix4 b a h w) : EReal) = (cell x0 x1 b a h w).tx := by
  pointwise [val_main_v35, val_main_v34, val_main_v33, val_main_v32, val_main_v31, val_main_v30, val_main_v29, val_main_v28,
    val_main_v27, val_main_cst_6, val_main_v14, val_main_v10, val_main_v9]
  rw [div_width, row_at]; rfl

theorem tw_at : (val_main_v44 (F := Ideal) x1 (ix4 b a h w) : EReal) = (cell x0 x1 b a h w).tw := by
  pointwise [val_main_v44, val_main_v43, val_main_v42, val_main_v41, val_main_v40, val_main_v39, val_main_v38, val_main_v37,
    val_main_v36, val_main_cst_7, val_main_v14, val_main_v10, val_main_v9]
  rw [div_width, row_at]; rfl

theorem ty_at : (val_main_v53 (F := Ideal) x1 (ix4 b a h w) : EReal) = (cell x0 x1 b a h w).ty := by
  pointwise [val_main_v53, val_main_v52, val_main_v51, val_main_v50, val_main_v49, val_main_v48, val_main_v47, val_main_v46,
    val_main_v45, val_main_cst_8, val_main_v15, val_main_v13, val_main_v12]
  rw [div_height, col_at]; rfl

theorem th_at : (val_main_v62 (F := Ideal) x1 (ix4 b a h w) : EReal) = (cell x0 x1 b a h w).th := by
  pointwise [val_main_v62, val_main_v61, val_main_v60, val_main_v59, val_main_v58, val_main_v57, val_main_v56, val_main_v55,
    val_main_v54, val_main_cst_9, val_main_v15, val_main_v13, val_main_v12]
  rw [div_height, col_at]; rfl

/-- The four numbers of the target box, side by side. -/
theorem target_at (k : Fin 4) : (val_main_v67 (F := Ideal) x1 (ix5 b a h w k) : EReal)
    = (![(cell x0 x1 b a h w).tx, (cell x0 x1 b a h w).ty, (cell x0 x1 b a h w).tw, (cell x0 x1 b a h w).th] : Fin 4 → EReal) k := by
  pointwise [val_main_v67, val_main_v66, val_main_v65, val_main_v64, val_main_v63]
  rw [tx_at x0, ty_at x0, tw_at x0, th_at x0]
  fin_cases k <;> rfl

/-- The four numbers of the predicted box. -/
theorem predicted_at (k : Fin 4) : (val_main_v18 (F := Ideal) x0 (ix5 b a h w k) : EReal)
    = (![(cell x0 x1 b a h w).px, (cell x0 x1 b a h w).py, (cell x0 x1 b a h w).pw, (cell x0 x1 b a h w).ph] : Fin 4 → EReal) k := by
  pointwise [val_main_v18, val_main_v17, val_main_v16]
  have e : ∀ (i j : Fin 255), i.val = j.val → x0 (ix4 b i h w) = x0 (ix4 b j h w) := fun i j e => by rw [Fin.ext e]
  fin_cases k <;> exact e _ _ (by simp; omega)

end Cert.ReferenceIdeal.Cells

end
-- ==== Proof.Count.lean ====
/-
  Counting: the sum of truth bits taken in 32-bit words is, as a number, the sum of ones over the places where they hold.
-/
module

public import Idealize.ShloMosaic.Lib.Pointwise
public import Idealize.ShloMosaic.Lib.Pipeline.ValueKit
public import Idealize.ShloMosaic.Lib.StableHlo.Predicate
public import Idealize.ShloMosaic.Lib.ReduceAll

@[expose] public section

noncomputable section

open Idealize.ShloMosaic

namespace Yolo

/-- A sum over all cells, axis by axis. -/
theorem sum_cells {n0 n1 n2 n3 : ℕ} (f : (⟨4, ![n0, n1, n2, n3]⟩ : Shape).Idx → EReal) :
    ∑ i, f i = ∑ b, ∑ a, ∑ h, ∑ w, f (ix4 b a h w) := sum_idx4 f

/-- A natural number sum, as an extended real. -/
theorem cast_sum {ι : Type} (S : Finset ι) (f : ι → ℕ) : (((∑ i ∈ S, f i : ℕ) : ℝ) : EReal) = ∑ i ∈ S, ((f i : ℝ) : EReal) := by
  classical
  induction S using Finset.induction_on with
  | empty => simp
  | insert a S ha ih => rw [Finset.sum_insert ha, Finset.sum_insert ha, ← ih]; push_cast; rfl

/-- The count of set bits, as a number. -/
theorem count {s t u : Shape} {axes : List (Fin s.rank)} [Subsingleton t.Idx] (mask : IVec s 1) (hw : 1 < 32) (h : s.ReducesTo axes t)
    (hu : 0 < u.numel) (j : t.Idx) (small : Fintype.card s.Idx < 2 ^ 31) :
    (((Host.reduce IntOp.addi (extui 32 mask hw) (constantI u 32 0#32) h hu j).toInt : ℝ) : EReal)
      = ∑ i, if mask i = 1#1 then 1 else 0 := by
  classical
  have bit : ∀ i, (extui 32 mask hw i).toNat = if mask i = 1#1 then 1 else 0 := fun i => StableHlo.Predicate.toNat_setWidth_bit (mask i)
  have all : (Finset.univ.filter fun i : s.Idx => h.drop i = j) = Finset.univ :=
    Finset.filter_true_of_mem fun i _ => Subsingleton.elim _ _
  have le : ∑ i, (extui 32 mask hw i).toNat ≤ Fintype.card s.Idx := by
    rw [← Finset.card_univ, Finset.card_eq_sum_ones]
    refine Finset.sum_le_sum fun i _ => ?_
    rw [bit]; split <;> simp
  have nat : (Host.reduce IntOp.addi (extui 32 mask hw) (constantI u 32 0#32) h hu j).toNat = ∑ i, (extui 32 mask hw i).toNat := by
    rw [Host.reduce_eq_fold, all]
    exact StableHlo.Predicate.toNat_fold_addi _ _ (by omega)
  rw [StableHlo.Predicate.toInt_eq_toNat_of_lt (by omega), nat, Int.cast_natCast, cast_sum]
  refine Finset.sum_congr rfl fun i _ => ?_
  rw [bit]
  split <;> simp

end Yolo

end
-- ==== Proof.RefSums.lean ====
/-
  The reference's masks and errors at each place, and the sums it takes of them.
-/
module

public import proofs.«01_k».proof.Proof.RefCell
public import proofs.«01_k».proof.Proof.Count

@[expose] public section

set_option maxRecDepth 16384

noncomputable section

open Idealize.ShloMosaic Idealize.ShloMosaic.TcCoe Idealize.SL.Sem

namespace Cert.ReferenceIdeal.Cells

open Cert.ReferenceIdeal Cert.ReferenceIdeal.Read
open Cert.KernelIdeal.Block (bit_true bit_number mul_bit)

variable (x0 : Preds) (x1 : Targs) (b : Fin 8) (a : Fin 3) (h w : Fin 64)

/-! ## Overlap -/

theorem predicted_edges :
    (val_main_v74 (F := Ideal) x0 (ix4 b a h w) : EReal) = Yolo.lo (cell x0 x1 b a h w).px (cell x0 x1 b a h w).pw
    ∧ (val_main_v81 (F := Ideal) x0 (ix4 b a h w) : EReal) = Yolo.hi (cell x0 x1 b a h w).px (cell x0 x1 b a h w).pw
    ∧ (val_main_v88 (F := Ideal) x0 (ix4 b a h w) : EReal) = Yolo.lo (cell x0 x1 b a h w).py (cell x0 x1 b a h w).ph
    ∧ (val_main_v95 (F := Ideal) x0 (ix4 b a h w) : EReal) = Yolo.hi (cell x0 x1 b a h w).py (cell x0 x1 b a h w).ph := by
  refine ⟨?_, ?_, ?_, ?_⟩
  · pointwise [val_main_v74, val_main_v73, val_main_v72, val_main_v71, val_main_v70, val_main_v69, val_main_v68, val_main_cst_10]
    rw [predicted_at x0 x1, predicted_at x0 x1, div_two]; rfl
  · pointwise [val_main_v81, val_main_v80, val_main_v79, val_main_v78, val_main_v77, val_main_v76, val_main_v75, val_main_cst_11]
    rw [predicted_at x0 x1, predicted_at x0 x1, div_two]; rfl
  · pointwise [val_main_v88, val_main_v87, val_main_v86, val_main_v85, val_main_v84, val_main_v83, val_main_v82, val_main_cst_12]
    rw [predicted_at x0 x1, predicted_at x0 x1, div_two]; rfl
  · pointwise [val_main_v95, val_main_v94, val_main_v93, val_main_v92, val_main_v91, val_main_v90, val_main_v89, val_main_cst_13]
    rw [predicted_at x0 x1, predicted_at x0 x1, div_two]; rfl

theorem target_edges :
    (val_main_v102 (F := Ideal) x1 (ix4 b a h w) : EReal) = Yolo.lo (cell x0 x1 b a h w).tx (cell x0 x1 b a h w).tw
    ∧ (val_main_v109 (F := Ideal) x1 (ix4 b a h w) : EReal) = Yolo.hi (cell x0 x1 b a h w).tx (cell x0 x1 b a h w).tw
    ∧ (val_main_v116 (F := Ideal) x1 (ix4 b a h w) : EReal) = Yolo.lo (cell x0 x1 b a h w).ty (cell x0 x1 b a h w).th
    ∧ (val_main_v123 (F := Ideal) x1 (ix4 b a h w) : EReal) = Yolo.hi (cell x0 x1 b a h w).ty (cell x0 x1 b a h w).th := by
  refine ⟨?_, ?_, ?_, ?_⟩
  · pointwise [val_main_v102, val_main_v101, val_main_v100, val_main_v99, val_main_v98, val_main_v97, val_main_v96, val_main_cst_14]
    rw [target_at x0 x1, target_at x0 x1, div_two]; rfl
  · pointwise [val_main_v109, val_main_v108, val_main_v107, val_main_v106, val_main_v105, val_main_v104, val_main_v103, val_main_cst_15]
    rw [target_at x0 x1, target_at x0 x1, div_two]; rfl
  · pointwise [val_main_v116, val_main_v115, val_main_v114, val_main_v113, val_main_v112, val_main_v111, val_main_v110, val_main_cst_16]
    rw [target_at x0 x1, target_at x0 x1, div_two]; rfl
  · pointwise [val_main_v123, val_main_v122, val_main_v121, val_main_v120, val_main_v119, val_main_v118, val_main_v117, val_main_cst_17]
    rw [target_at x0 x1, target_at x0 x1, div_two]; rfl

theorem iou_at : (val_main_v147 (F := Ideal) x0 x1 (ix4 b a h w) : EReal)
    = Yolo.iou (cell x0 x1 b a h w).px (cell x0 x1 b a h w).py (cell x0 x1 b a h w).pw (cell x0 x1 b a h w).ph
        (cell x0 x1 b a h w).tx (cell x0 x1 b a h w).ty (cell x0 x1 b a h w).tw (cell x0 x1 b a h w).th := by
  obtain ⟨p1, p2, p3, p4⟩ := predicted_edges x0 x1 b a h w
  obtain ⟨t1, t2, t3, t4⟩ := target_edges x0 x1 b a h w
  pointwise [val_main_v147, val_main_v146, val_main_v145, val_main_v144, val_main_v143, val_main_v142, val_main_v141,
    val_main_v140, val_main_v139, val_main_v138, val_main_v137, val_main_v136, val_main_v135, val_main_v134, val_main_v133,
    val_main_v132, val_main_v131, val_main_v130, val_main_v129, val_main_v128, val_main_v127, val_main_v126, val_main_v125,
    val_main_v124, val_main_cst_24, val_main_call0_v1, val_main_call0_v0, val_main_call1_v1, val_main_call1_v0, val_main_call2_v1,
    val_main_call2_v0, val_main_call3_v1, val_main_call3_v0, val_main_call4_v1, val_main_call4_v0, val_main_call5_v1,
    val_main_call5_v0, val_main_cst_18, val_main_cst_19, val_main_cst_20, val_main_cst_21, val_main_cst_22, val_main_cst_23]
  rw [p1, p2, p3, p4, t1, t2, t3, t4,
    show (id (constant (F := Ideal) S_ .f32 0x00000000#32) ix0 : EReal) = 0 from Ideal.ofBits_zero_f32]
  rfl

/-! ## Masks -/

theorem held_at : val_main_v26 (F := Ideal) x1 (ix4 b a h w) = 1#1 ↔ (cell x0 x1 b a h w).held := by
  pointwise [val_main_v26, val_main_v25, val_main_v24, val_main_v23, val_main_cst_5]
  exact bit_true _

theorem hit_at : val_main_v150 (F := Ideal) x0 x1 (ix4 b a h w) = 1#1 ↔ (cell x0 x1 b a h w).hit := by
  rw [Yolo.Cell.hit, ← held_at x0 x1, ← iou_at]
  pointwise [val_main_v150, val_main_v149, val_main_v148, val_main_cst_25]
  generalize val_main_v26 (F := Ideal) x1 (ix4 b a h w) = v
  have key : ∀ (q : Bool) (v : BitVec 1), BitVec.ofBool q &&& v = 1#1 ↔ q = true ∧ v = 1#1 := by decide
  refine (key _ v).trans ?_
  rw [decide_eq_true_iff]

theorem miss_at : val_main_v151 (F := Ideal) x0 x1 (ix4 b a h w) = 1#1 ↔ ¬(cell x0 x1 b a h w).hit := by
  rw [← hit_at]
  pointwise [val_main_v151]
  generalize val_main_v150 (F := Ideal) x0 x1 (ix4 b a h w) = v
  revert v; decide

/-! ## Errors -/

theorem bce_at : (val_main_v162 (F := Ideal) x0 x1 (ix4 b a h w) : EReal)
    = Yolo.bce (cell x0 x1 b a h w).obj (cell x0 x1 b a h w).t4 := by
  pointwise [val_main_v162, val_main_v161, val_main_v160, val_main_v159, val_main_v158, val_main_v157, val_main_v156,
    val_main_v155, val_main_v154, val_main_v153, val_main_v152, val_main_cst_26, val_main_v19]
  rfl

theorem box_at : (val_main_v187 (F := Ideal) x0 x1 (ix4 b a h w) : EReal) = (cell x0 x1 b a h w).box := by
  pointwise [val_main_v187, val_main_v186, val_main_v185, val_main_v184, val_main_v183, val_main_cst_38, val_main_cst_39]
  simp only [predicted_at x0 x1, target_at x0 x1]
  rw [div_four, Fin.sum_univ_four]
  rfl

theorem label_at (k : Fin 80) : (val_main_v195 (F := Ideal) x1 (ix5 b a h w k) : EReal) = (cell x0 x1 b a h w).label k := by
  pointwise [val_main_v195, val_main_call9_v4, val_main_call9_v3, val_main_call9_v2, val_main_call9_v1, val_main_call9_v0,
    val_main_v194, val_main_v193, val_main_v192]
  rw [Yolo.Cell.label]
  show (((IntOp.cmpi .eq (FloatOps.fptosi (F := Ideal) (φ := .f32) 32 (cell x0 x1 b a h w).t5) (BitVec.ofNat 32 k.val)).toNat : ℝ) : EReal) = _
  generalize FloatOps.fptosi (F := Ideal) (φ := .f32) 32 (cell x0 x1 b a h w).t5 = v
  by_cases e : v = BitVec.ofNat 32 k.val
  · rw [if_pos e.symm]; simp [IntOp.cmpi, e]
  · have : (v == BitVec.ofNat 32 k.val) = false := beq_false_of_ne e
    rw [if_neg (Ne.symm e)]; simp [IntOp.cmpi, this]

theorem score_at (k : Fin 80) : (val_main_v22 (F := Ideal) x0 (ix5 b a h w k) : EReal) = (cell x0 x1 b a h w).cls k := by
  pointwise [val_main_v22, val_main_v21, val_main_v20]
  have e : ∀ (i j : Fin 255), i.val = j.val → x0 (ix4 b i h w) = x0 (ix4 b j h w) := fun i j e => by rw [Fin.ext e]
  exact e _ _ (by simp; omega)

theorem ent_at : (val_main_v207 (F := Ideal) x0 x1 (ix4 b a h w) : EReal) = (cell x0 x1 b a h w).ent := by
  pointwise [val_main_v207, val_main_v206, val_main_v205, val_main_v204, val_main_v203, val_main_v202, val_main_v201, val_main_v200,
    val_main_v199, val_main_v198, val_main_v197, val_main_v196, val_main_cst_43, val_main_cst_44, val_main_cst_45]
  simp only [score_at x0 x1, label_at x0 x1]
  rw [div_eighty]
  rfl

end Cert.ReferenceIdeal.Cells

end
-- ==== Proof.Finite.lean ====
/-
  Where objectness predictions and targets are finite, so is every cross entropy of them: the sum over the cells that are
  not hits is then the sum over all cells less the sum over the hits.
-/
module

public import proofs.«01_k».proof.Proof.Cell

@[expose] public section

noncomputable section

open Idealize.ShloMosaic

namespace Yolo

/-- A number that is neither infinity. -/
def IsReal (x : EReal) : Prop := ∃ y : ℝ, x = y

theorem real_of_abs (x : EReal) (h : max x (-x) < ⊤) : IsReal x := by
  induction x using EReal.rec with
  | bot => simp at h
  | top => simp at h
  | coe y => exact ⟨y, rfl⟩

theorem real_zero : IsReal 0 := ⟨0, rfl⟩
theorem real_one : IsReal 1 := ⟨1, rfl⟩

theorem real_ite (P : Prop) [Decidable P] {x y : EReal} (hx : IsReal x) (hy : IsReal y) : IsReal (if P then x else y) := by
  split <;> assumption

theorem real_sum {ι : Type} (S : Finset ι) (f : ι → EReal) (h : ∀ i, IsReal (f i)) : IsReal (∑ i ∈ S, f i) := by
  classical
  induction S using Finset.induction_on with
  | empty => exact real_zero
  | insert a S ha ih =>
    rw [Finset.sum_insert ha]
    obtain ⟨y, hy⟩ := ih
    obtain ⟨z, hz⟩ := h a
    exact ⟨z + y, by rw [hy, hz, EReal.coe_add]⟩

/-- The cross entropy of a finite score against a finite label is finite. -/
theorem real_bce {x z : EReal} (hx : IsReal x) (hz : IsReal z) : IsReal (bce x z) := by
  obtain ⟨x, rfl⟩ := hx
  obtain ⟨z, rfl⟩ := hz
  have pos : ¬(1 + Real.exp (-(max x (-x))) ≤ 0) := not_le.mpr (by positivity)
  refine ⟨max x 0 - x * z + Real.log (1 + Real.exp (-(max x (-x)))), ?_⟩
  have coe_max : ∀ a b : ℝ, ((max a b : ℝ) : EReal) = max (a : EReal) b := fun a b => EReal.coe_strictMono.monotone.map_max
  have s : soft (x : EReal) = ((Real.log (1 + Real.exp (-(max x (-x)))) : ℝ) : EReal) := by
    unfold soft
    rw [← EReal.coe_neg, ← coe_max, ← EReal.coe_neg, Ideal.exp_coe, ← EReal.coe_one, ← EReal.coe_add, Ideal.log_coe, if_neg pos]
  rw [bce, s, ← EReal.coe_zero, ← coe_max, ← EReal.coe_mul, ← EReal.coe_sub, ← EReal.coe_add]

/-- Of a finite quantity, the sum where something fails is the whole sum less the sum where it holds. -/
theorem sum_not {ι : Type} [Fintype ι] (P : ι → Prop) [∀ i, Decidable (P i)] (f : ι → EReal) (h : ∀ i, IsReal (f i)) :
    (∑ i, if ¬P i then f i else 0) = (∑ i, f i) - ∑ i, if P i then f i else 0 := by
  obtain ⟨y, hy⟩ := real_sum Finset.univ (fun i => if P i then f i else 0) fun i => real_ite (P i) (h i) real_zero
  have both : (∑ i, f i) = (∑ i, if ¬P i then f i else 0) + ∑ i, if P i then f i else 0 := by
    rw [← Finset.sum_add_distrib]
    refine Finset.sum_congr rfl fun i _ => ?_
    by_cases e : P i <;> simp [e]
  rw [both, hy, EReal.add_sub_cancel_right]

end Yolo

end
-- ==== Proof.RefLoss.lean ====
/-
  The reference's result: the loss of the six sums over all cells.
-/
module

public import proofs.«01_k».proof.Proof.RefSums
public import proofs.«01_k».proof.Proof.Finite
public import proofs.«01_k».proof.Proof.Gen.Pre_finite_objectness

@[expose] public section

set_option maxRecDepth 16384

noncomputable section

open Idealize.ShloMosaic Idealize.ShloMosaic.TcCoe Idealize.SL.Sem

namespace Cert.ReferenceIdeal.Cells

open Cert.ReferenceIdeal Cert.ReferenceIdeal.Read

variable (x0 : Preds) (x1 : Targs)

/-- The cell at an index of the reference's arrays. -/
abbrev at4 (i : S8x3x64x64.Idx) : Yolo.Cell := cell x0 x1 (i 0) (i 1) (i 2) (i 3)

/-- The six sums. -/
abbrev sums (n : Fin 6) : EReal := Yolo.sums (fun b k h w => x0 (ix4 b k h w)) (fun b a h w j => x1 (ix5 b a h w j)) n

theorem sums_eq (n : Fin 6) : sums x0 x1 n = ∑ i, (at4 x0 x1 i).word n := (Yolo.sum_cells fun i => (at4 x0 x1 i).word n).symm

/-- Every index is a place. -/
theorem places {P : S8x3x64x64.Idx → Prop} (h : ∀ b a r c, P (ix4 b a r c)) (i : S8x3x64x64.Idx) : P i := by
  idx_vars i
  exact h _ _ _ _

/-- The precondition's finiteness of the objectness. -/
theorem finite (hpre : Cert.Pre_finite_objectness.fn (F := Ideal) x0 x1 = fun _ => 1#1) (i : S8x3x64x64.Idx) :
    Yolo.IsReal (at4 x0 x1 i).obj ∧ Yolo.IsReal (at4 x0 x1 i).t4 := by
  have e := congrFun hpre ix0
  unfold Cert.Pre_finite_objectness.fn at e
  dsimp only at e
  have sub : Subsingleton Cert.Pre_finite_objectness.S_.Idx := ⟨fun _ _ => funext fun a => a.elim0⟩
  obtain ⟨p, t⟩ := IntOp.andi_eq_one.1 e
  have top : Ideal.ofBits .f32 0x7F800000#32 = (⊤ : EReal) := by simp [Ideal.ofBits, Ideal.ieee]
  have lt : ∀ x : EReal, BitVec.ofBool (decide (max x (-x) < Ideal.ofBits .f32 0x7F800000#32)) = 1#1 → Yolo.IsReal x := fun x h =>
    Yolo.real_of_abs x (top ▸ (Cert.KernelIdeal.Block.bit_true _).1 h)
  revert i
  refine places fun b a r c => ⟨lt _ ?_, lt _ ?_⟩
  · have := Host.reduce_andi_all _ _ _ _ _ p (ix4 b a r c)
    revert this
    pointwise
    exact id
  · have := Host.reduce_andi_all _ _ _ _ _ t (ix4 b a r c)
    revert this
    pointwise
    exact id

/-! ## Counts -/

theorem hit_all (i : S8x3x64x64.Idx) : val_main_v150 (F := Ideal) x0 x1 i = 1#1 ↔ (at4 x0 x1 i).hit := by
  revert i; exact places (hit_at x0 x1)

theorem miss_all (i : S8x3x64x64.Idx) : val_main_v151 (F := Ideal) x0 x1 i = 1#1 ↔ ¬(at4 x0 x1 i).hit := by
  revert i; exact places (miss_at x0 x1)

theorem held_all (i : S8x3x64x64.Idx) : val_main_v26 (F := Ideal) x1 i = 1#1 ↔ (at4 x0 x1 i).held := by
  revert i; exact places (held_at x0 x1)

theorem bce_all (i : S8x3x64x64.Idx) : (val_main_v162 (F := Ideal) x0 x1 i : EReal) = Yolo.bce (at4 x0 x1 i).obj (at4 x0 x1 i).t4 := by
  revert i; exact places (bce_at x0 x1)

theorem box_all (i : S8x3x64x64.Idx) : (val_main_v187 (F := Ideal) x0 x1 i : EReal) = (at4 x0 x1 i).box := by
  revert i; exact places (box_at x0 x1)

theorem ent_all (i : S8x3x64x64.Idx) : (val_main_v207 (F := Ideal) x0 x1 i : EReal) = (at4 x0 x1 i).ent := by
  revert i; exact places (ent_at x0 x1)

instance : Subsingleton S_.Idx := ⟨fun _ _ => funext fun a => a.elim0⟩

theorem small : Fintype.card S8x3x64x64.Idx < 2 ^ 31 := by decide +kernel

/-- The number of hits. -/
theorem hits_at (i : S_.Idx) : (val_main_v165 (F := Ideal) x0 x1 i : EReal) = sums x0 x1 2 := by
  classical
  refine (Yolo.count (val_main_v150 (F := Ideal) x0 x1) _ _ _ i small).trans ?_
  rw [sums_eq]
  exact Finset.sum_congr rfl fun j _ => if_congr (hit_all x0 x1 j) rfl rfl

/-- The number of held targets. -/
theorem targets_at (i : S_.Idx) : (val_main_v210 (F := Ideal) x1 i : EReal) = sums x0 x1 5 := by
  classical
  refine (Yolo.count (val_main_v26 (F := Ideal) x1) _ _ _ i small).trans ?_
  rw [sums_eq]
  exact Finset.sum_congr rfl fun j _ => if_congr (held_all x0 x1 j) rfl rfl

/-- The number of places. -/
theorem total : (∑ _i : S8x3x64x64.Idx, (1 : EReal)) = Yolo.lit 0x47C00000#32 := by
  have e : Ideal.ofBits .f32 0x47C00000#32 = ((98304 : ℝ) : EReal) := by
    simp [Ideal.ofBits, Ideal.ieee, -EReal.coe_mul]; norm_num
  have c : Fintype.card S8x3x64x64.Idx = 98304 := by decide +kernel
  have one : (1 : EReal) = (((1 : ℕ) : ℝ) : EReal) := by simp
  rw [Yolo.lit, e, one, ← Yolo.cast_sum, Finset.sum_const, Finset.card_univ, c]
  norm_num

/-- The number of misses is the number of places less the number of hits. -/
theorem misses_at (i : S_.Idx) : (val_main_v168 (F := Ideal) x0 x1 i : EReal) = Yolo.lit 0x47C00000#32 - sums x0 x1 2 := by
  classical
  refine (Yolo.count (val_main_v151 (F := Ideal) x0 x1) _ _ _ i small).trans ?_
  rw [sums_eq, ← total]
  refine (Finset.sum_congr rfl fun j _ => ?_).trans
    (Yolo.sum_not (fun j => (at4 x0 x1 j).hit) (fun _ => (1 : EReal)) fun _ => Yolo.real_one)
  exact if_congr (miss_all x0 x1 j) rfl rfl

/-! ## Sums of errors -/

/-- A sum, over the places where a bit is set, of what an array holds there. -/
theorem masked (v : IVec S8x3x64x64 1) (x z : FVec Ideal S8x3x64x64 .f32) (P : S8x3x64x64.Idx → Prop) [∀ j, Decidable (P j)]
    (y : S8x3x64x64.Idx → EReal) (hv : ∀ j, v j = 1#1 ↔ P j) (hx : ∀ j, x j = y j) (hz : ∀ j, z j = (0 : EReal)) :
    (∑ j, (Scalar.select (v j) (x j) (z j) : EReal)) = ∑ j, if P j then y j else 0 := by
  refine Finset.sum_congr rfl fun j _ => ?_
  rw [hx, hz]
  exact if_congr (hv j) rfl rfl

/-- Objectness entropy at the hits. -/
theorem bce_hits (i : S_.Idx) : (val_main_v172 (F := Ideal) x0 x1 i : EReal) = sums x0 x1 0 := by
  classical
  rw [val_main_v172_apply, sums_eq]
  refine (congrArg₂ (· + ·) Ideal.ofBits_zero_f32 (masked _ _ _ (fun j => (at4 x0 x1 j).hit) _ (hit_all x0 x1)
    (bce_all x0 x1) fun j => Ideal.ofBits_zero_f32)).trans ?_
  exact zero_add _

/-- Objectness entropy at the misses. -/
theorem bce_misses (hpre : Cert.Pre_finite_objectness.fn (F := Ideal) x0 x1 = fun _ => 1#1) (i : S_.Idx) :
    (val_main_v179 (F := Ideal) x0 x1 i : EReal) = sums x0 x1 1 - sums x0 x1 0 := by
  classical
  rw [val_main_v179_apply, sums_eq, sums_eq]
  refine (congrArg₂ (· + ·) Ideal.ofBits_zero_f32 (masked _ _ _ (fun j => ¬(at4 x0 x1 j).hit) _ (miss_all x0 x1)
    (bce_all x0 x1) fun j => Ideal.ofBits_zero_f32)).trans ?_
  rw [zero_add]
  exact Yolo.sum_not _ _ fun j => Yolo.real_bce (finite x0 x1 hpre j).1 (finite x0 x1 hpre j).2

/-- Box error at the hits. -/
theorem box_hits (i : S_.Idx) : (val_main_v189 (F := Ideal) x0 x1 i : EReal) = sums x0 x1 3 := by
  classical
  rw [val_main_v189_apply, sums_eq]
  refine (congrArg₂ (· + ·) Ideal.ofBits_zero_f32 (masked _ _ _ (fun j => (at4 x0 x1 j).hit) _ (hit_all x0 x1)
    (box_all x0 x1) fun j => Ideal.ofBits_zero_f32)).trans ?_
  exact zero_add _

/-- Class entropy at the hits. -/
theorem ent_hits (i : S_.Idx) : (val_main_v214 (F := Ideal) x0 x1 i : EReal) = sums x0 x1 4 := by
  classical
  rw [val_main_v214_apply, sums_eq]
  refine (congrArg₂ (· + ·) Ideal.ofBits_zero_f32 (masked _ _ _ (fun j => (at4 x0 x1 j).hit) _ (hit_all x0 x1)
    (ent_all x0 x1) fun j => Ideal.ofBits_zero_f32)).trans ?_
  exact zero_add _

/-- The reference's result. -/
theorem result (hpre : Cert.Pre_finite_objectness.fn (F := Ideal) x0 x1 = fun _ => 1#1) :
    val_main_v220 (F := Ideal) x0 x1 = fun _ => Yolo.loss (sums x0 x1) := by
  funext i
  simp only [val_main_v220_apply, val_main_v219_apply, val_main_v218_apply, val_main_v217_apply, val_main_v216_apply,
    val_main_v215_apply, val_main_v212_apply, val_main_v211_apply, val_main_v191_apply, val_main_v190_apply, val_main_v182_apply,
    val_main_v181_apply, val_main_v180_apply, val_main_v177_apply, val_main_v176_apply, val_main_v175_apply, val_main_v174_apply,
    val_main_v173_apply, val_main_v170_apply, val_main_v169_apply]
  rw [hits_at, misses_at, targets_at x0 x1, bce_hits, bce_misses x0 x1 hpre, box_hits, ent_hits]
  rfl

end Cert.ReferenceIdeal.Cells

end
-- ==== Proof.lean ====
/-
  The five claims of the statement: both forms of the kernel and the reference run to the end, leave their arguments and their
  counters as they were; the kernel's idealized form is the kernel; and the kernel's loss is the reference's.
-/
module

public import proofs.«01_k».proof.Proof.Loss
public import proofs.«01_k».proof.Proof.RefLoss
public import proofs.«01_k».proof.Proof.Gen.ReferenceIdeal.Run
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.Pre_finite_objectness
public import proofs.«01_k».proof.Defs
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- What was printed for each named reciprocal is the real number it stands for. -/
theorem preserved : Cert.preserves_Kernel_KernelIdeal :=
  ⟨IdealRules.named_const.statement Cert.KernelIdeal.κ "inv_w0" .f32 0x3D8D3DCB#32 _ rfl,
    IdealRules.named_const.statement Cert.KernelIdeal.κ "inv_h0" .f32 0x3DB60B61#32 _ rfl,
    IdealRules.named_const.statement Cert.KernelIdeal.κ "inv_classes" .f32 0x3C4CCCCD#32 _ rfl,
    IdealRules.named_const.statement Cert.KernelIdeal.κ "inv_w1" .f32 0x3D520D21#32 _ rfl,
    IdealRules.named_const.statement Cert.KernelIdeal.κ "inv_h1" .f32 0x3D257EB5#32 _ rfl,
    IdealRules.named_const.statement Cert.KernelIdeal.κ "inv_w2" .f32 0x3CAFB322#32 _ rfl,
    IdealRules.named_const.statement Cert.KernelIdeal.κ "inv_h2" .f32 0x3CC907DA#32 _ rfl⟩

/-- The reference runs to the end with its loss in the result and its arguments as they were. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem (c.tc.loc Cert.ReferenceIdeal.main_v220)
          = Cert.ReferenceIdeal.Read.val_main_v220 (F := Ideal) (m (c.tc.loc Cert.ReferenceIdeal.main_arg0)) (m (c.tc.loc Cert.ReferenceIdeal.main_arg1))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1) :=
  θ_run_mono (Cert.ReferenceIdeal.Value.run m ρ) fun _ h c =>
    ⟨(h c).1.trans (Cert.ReferenceIdeal.Read.val_main_v220_eq (StableHlo.launchContents m c)), (h c).2⟩

/-- The reference leaves its arguments as they were, and it has no counters. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)) ∧ r.2.sem = fun _ => 0 :=
  θ_run_mono (run_reference m ρ) fun r h => ⟨fun c => (h c).2, sem_eq_zero_of_no_sems (by decide) r.2⟩

/-- From memories that agree on the arguments, the objectness finite, the kernel and the reference return the same loss. -/
theorem valued : Cert.algebraic_KernelIdeal_ReferenceIdeal_pre_finite_objectness := by
  pair_intro
  · run_from Cert.KernelIdeal.Gen.run_main m g
    · exact Cert.KernelIdeal.Gen.W_main_arg0 m (Cert.KernelIdeal.Gen.dats m) c
    · exact Cert.KernelIdeal.Gen.W_main_arg1 m (Cert.KernelIdeal.Gen.dats m) c
  · run_from run_reference m' g'
    exact (Cert.ReferenceIdeal.Cells.result _ _ (hpre c)).trans (Cert.KernelIdeal.Value.result_last m c).symm

theorem claim : Cert.Claim :=
  ⟨Cert.Kernel.Gen.facts, Cert.KernelIdeal.Gen.facts, Cert.ReferenceIdeal.Gen.facts, Cert.Pre_finite_objectness.Gen.facts,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ, preserved, valued⟩

end Cert.Proof

end
